-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_sorted_ids_finite_max [hPre_sorted_ids_finite_max : Cert.Pre_sorted_ids_finite_max.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_ids_finite_max.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_sorted_ids_finite_max.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_sorted_ids_finite_max.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_ids_finite_max [hPre_sorted_ids_finite_max : Cert.Pre_sorted_ids_finite_max.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_ids_finite_max.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_sorted_ids_finite_max.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_sorted_ids_finite_max.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_sorted_ids_finite_max [hKernelIdeal : Cert.KernelIdeal.Facts] [hPre_sorted_ids_finite_max : Cert.Pre_sorted_ids_finite_max.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_ids_finite_max m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_sorted_ids_finite_max [hReferenceIdeal : Cert.ReferenceIdeal.Facts] [hPre_sorted_ids_finite_max : Cert.Pre_sorted_ids_finite_max.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_ids_finite_max m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_sorted_ids_finite_max [hKernelIdeal : Cert.KernelIdeal.Facts] [hReferenceIdeal : Cert.ReferenceIdeal.Facts] [hPre_sorted_ids_finite_max : Cert.Pre_sorted_ids_finite_max.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_ids_finite_max m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_sorted_ids_finite_max : Cert.Pre_sorted_ids_finite_max.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_sorted_ids_finite_max (hKernelIdeal := hKernelIdeal) (hPre_sorted_ids_finite_max := hPre_sorted_ids_finite_max)
    ∧ quiescent_ReferenceIdeal (hReferenceIdeal := hReferenceIdeal)
    ∧ quiescent_ReferenceIdeal_pre_sorted_ids_finite_max (hReferenceIdeal := hReferenceIdeal) (hPre_sorted_ids_finite_max := hPre_sorted_ids_finite_max)
    ∧ preserves_Kernel_KernelIdeal
    ∧ algebraic_KernelIdeal_ReferenceIdeal_pre_sorted_ids_finite_max (hKernelIdeal := hKernelIdeal) (hReferenceIdeal := hReferenceIdeal) (hPre_sorted_ids_finite_max := hPre_sorted_ids_finite_max)
-- ==== Pre_ids_in_range.lean ====
abbrev S100000x256 : Shape := ⟨2, ![100000, 256]⟩
abbrev S100000 : Shape := ⟨1, ![100000]⟩
abbrev S256x1 : Shape := ⟨2, ![256, 1]⟩
abbrev S_ : Shape := ⟨0, ![]⟩

class Facts : Prop where
  bcast_S_S100000 : S_.BroadcastsInDim S100000 (![] : Fin 0 → Fin S100000.rank)

variable [Facts]

def fn {F : FTy → Type} [FloatOps F] (main_arg0 : FVec F S100000x256 .f32) (main_arg1 : IVec S100000 32) (main_arg2 : FVec F S256x1 .f32) : IVec S100000 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 32 := constantI S_ 32 512#32
  let main_v2 : IVec S100000 32 := broadcastInDim S100000 ![] bcast_S_S100000 main_c_0
  let main_v3 : IVec S100000 1 := cmpi .slt main_arg1 main_v2
  let main_v4 : IVec S100000 1 := andi main_v1 main_v3
  main_v4
-- ==== Pre_sorted_ids_finite_max.lean ====
abbrev S100000x256 : Shape := ⟨2, ![100000, 256]⟩
abbrev S100000 : Shape := ⟨1, ![100000]⟩
abbrev S256x1 : Shape := ⟨2, ![256, 1]⟩
abbrev S100000x1 : Shape := ⟨2, ![100000, 1]⟩
abbrev S_ : Shape := ⟨0, ![]⟩
abbrev S99999 : Shape := ⟨1, ![99999]⟩

class Facts : Prop where
  bcast_S_S100000 : S_.BroadcastsInDim S100000 (![] : Fin 0 → Fin S100000.rank)
  slices_S100000_S99999_0 : S100000.Slices ![0] S99999
  slices_S100000_S99999_1 : S100000.Slices ![1] S99999
  reducesTo_S100000x1_S_d0_1 : S100000x1.ReducesTo [0, 1] S_
  h_S_ : 0 < S_.numel
  dot_S100000x256_S256x1_S100000x1_1_0_0_1_n_n_wf : DotDims.WF S100000x256 S256x1 S100000x1 [1] [0] [0] [1] [] []

variable [Facts]

def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf
def fn {F : FTy → Type} [FloatOps F] (main_arg0 : FVec F S100000x256 .f32) (main_arg1 : IVec S100000 32) (main_arg2 : FVec F S256x1 .f32) : IVec S100000 1 × IVec S99999 1 × IVec S_ 1 :=
  let main_v0 : FVec F S100000x1 .f32 := (fun l r => Host.dotGeneral dot_S100000x256_S256x1_S100000x1_1_0_0_1_n_n none l r) main_arg0 main_arg2
  let main_c : IVec S_ 32 := constantI S_ 32 0#32
  let main_v1 : IVec S100000 32 := broadcastInDim S100000 ![] bcast_S_S100000 main_c
  let main_v2 : IVec S100000 1 := cmpi .sge main_arg1 main_v1
  let main_c_0 : IVec S_ 32 := constantI S_ 32 512#32
  let main_v3 : IVec S100000 32 := broadcastInDim S100000 ![] bcast_S_S100000 main_c_0
  let main_v4 : IVec S100000 1 := cmpi .slt main_arg1 main_v3
  let main_v5 : IVec S100000 1 := andi main_v2 main_v4
  let main_v6 : IVec S99999 32 := (extractStridedSlice S99999 ![0] · slices_S100000_S99999_0) main_arg1
  let main_v7 : IVec S99999 32 := (extractStridedSlice S99999 ![1] · slices_S100000_S99999_1) main_arg1
  let main_v8 : IVec S99999 1 := cmpi .sle main_v6 main_v7
  let main_cst : FVec F S_ .f32 := constant S_ .f32 0xFF800000#32
  let main_v9 : FVec F S_ .f32 := (fun x v => Host.reduce FloatOps.maximumf x v reducesTo_S100000x1_S_d0_1 h_S_) main_v0 main_cst
  let main_v10 : FVec F S_ .f32 := Host.absf main_v9
  let main_cst_1 : FVec F S_ .f32 := constant S_ .f32 0x7F800000#32
  let main_v11 : IVec S_ 1 := cmpf .olt main_v10 main_cst_1
  (main_v5, main_v8, main_v11)
-- ==== Kernel.lean ====
abbrev S100000x256 : Shape := ⟨2, ![100000, 256]⟩
abbrev S100000 : Shape := ⟨1, ![100000]⟩
abbrev S256x1 : Shape := ⟨2, ![256, 1]⟩
abbrev S50 : Shape := ⟨1, ![50]⟩
abbrev S10x1x10000 : Shape := ⟨3, ![10, 1, 10000]⟩
abbrev S512x256 : Shape := ⟨2, ![512, 256]⟩
abbrev S10000x256 : Shape := ⟨2, ![10000, 256]⟩
abbrev S1x1x10000 : Shape := ⟨3, ![1, 1, 10000]⟩
abbrev S2 : Shape := ⟨1, ![2]⟩
abbrev S1 : Shape := ⟨1, ![1]⟩
abbrev S2000x256 : Shape := ⟨2, ![2000, 256]⟩
abbrev S1x2000 : Shape := ⟨2, ![1, 2000]⟩
abbrev S1x1x2000 : Shape := ⟨3, ![1, 1, 2000]⟩
abbrev S1x1x1 : Shape := ⟨3, ![1, 1, 1]⟩
abbrev S32x2000 : Shape := ⟨2, ![32, 2000]⟩
abbrev S32x256 : Shape := ⟨2, ![32, 256]⟩

abbrev nBuf : Space → Nat
  | .hbm => 5
  | .vmem => 6
  | .smem => 3
  | _ => 0

abbrev bufTy : (tb : Table) → Fin (tcTables nBuf tb) → BufTy
  | .hbm, ⟨0, _⟩ => ⟨S100000x256, .f32⟩
  | .hbm, ⟨1, _⟩ => ⟨S100000, .i32⟩
  | .hbm, ⟨2, _⟩ => ⟨S256x1, .f32⟩
  | .hbm, ⟨3, _⟩ => ⟨S10x1x10000, .i32⟩
  | .hbm, ⟨4, _⟩ => ⟨S512x256, .f32⟩
  | .local _ .vmem, ⟨0, _⟩ => ⟨S10000x256, .f32⟩
  | .local _ .vmem, ⟨1, _⟩ => ⟨S10000x256, .f32⟩
  | .local _ .vmem, ⟨2, _⟩ => ⟨S1x1x10000, .i32⟩
  | .local _ .vmem, ⟨3, _⟩ => ⟨S1x1x10000, .i32⟩
  | .local _ .vmem, ⟨4, _⟩ => ⟨S256x1, .f32⟩
  | .local _ .vmem, ⟨5, _⟩ => ⟨S512x256, .f32⟩
  | .local _ .smem, ⟨0, _⟩ => ⟨S50, .i32⟩
  | .local _ .smem, ⟨1, _⟩ => ⟨S50, .i32⟩
  | .local _ .smem, ⟨2, _⟩ => ⟨S2, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨2, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v2 : Ref sig .tc := ⟨.hbm, 3, rfl⟩
abbrev main_v3 : Ref sig .tc := ⟨.hbm, 4, rfl⟩
abbrev main_v0 : Ref sig .tc := ⟨.smem, 0, rfl⟩
abbrev main_v1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![10], ![false]⟩

abbrev pre0 : Pipeline.Prefetch sig := ⟨2, ![main_v0.idx, main_v1.idx], fun | 0 => main_v0.names | 1 => main_v1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let c5_i32 : BitVec 32 := 5#32
  let arg0 : BitVec 32 := BitVec.ofNat 32 (i 0).val
  let v100 : BitVec 32 := Scalar.muli c5_i32 arg0
  let c0_i32_31 : BitVec 32 := 0#32
  let v101 : BitVec 32 := Scalar.addi v100 c0_i32_31
  let v102 : Index := Scalar.indexCast v101
  ![v102.toNat]
def k0_mult1 (v103 : BitVec 32) : BitVec 32 :=
  let c0_i32_34 : BitVec 32 := 0#32
  let v109 : BitVec 1 := Scalar.cmpi .sgt v103 c0_i32_34
  let v110 : BitVec 32 := Scalar.extui v109
  let c0_i32_35 : BitVec 32 := 0#32
  let v111 : BitVec 1 := Scalar.cmpi .slt v103 c0_i32_35
  let v112 : BitVec 32 := Scalar.extui v111
  let v113 : BitVec 32 := Scalar.subi v110 v112
  let c8_i32 : BitVec 32 := 8#32
  let c0_i32_36 : BitVec 32 := 0#32
  let v114 : BitVec 1 := Scalar.cmpi .sgt c8_i32 c0_i32_36
  let v115 : BitVec 32 := Scalar.extui v114
  let c0_i32_37 : BitVec 32 := 0#32
  let v116 : BitVec 1 := Scalar.cmpi .slt c8_i32 c0_i32_37
  let v117 : BitVec 32 := Scalar.extui v116
  let v118 : BitVec 32 := Scalar.subi v115 v117
  let v119 : BitVec 1 := Scalar.cmpi .ne v113 v118
  let v120 : BitVec 32 := Scalar.remsi v103 c8_i32
  let c0_i32_38 : BitVec 32 := 0#32
  let v121 : BitVec 1 := Scalar.cmpi .ne v120 c0_i32_38
  let v122 : BitVec 1 := Scalar.andi v119 v121
  let v108 : BitVec 32 := Scalar.divsi v103 c8_i32
  let c1_i32 : BitVec 32 := 1#32
  let v123 : BitVec 32 := Scalar.subi v108 c1_i32
  let v124 : BitVec 32 := Scalar.select v122 v123 v108
  let c8_i32_39 : BitVec 32 := 8#32
  let v125 : BitVec 32 := Scalar.muli v124 c8_i32_39
  let c480_i32 : BitVec 32 := 480#32
  let v126 : BitVec 32 := Scalar.minsi v125 c480_i32
  v126

def k0_off2 (v103 : BitVec 32) : Fin 2 → Nat :=
  let c0_i32_34 : BitVec 32 := 0#32
  let v109 : BitVec 1 := Scalar.cmpi .sgt v103 c0_i32_34
  let v110 : BitVec 32 := Scalar.extui v109
  let c0_i32_35 : BitVec 32 := 0#32
  let v111 : BitVec 1 := Scalar.cmpi .slt v103 c0_i32_35
  let v112 : BitVec 32 := Scalar.extui v111
  let v113 : BitVec 32 := Scalar.subi v110 v112
  let c8_i32 : BitVec 32 := 8#32
  let c0_i32_36 : BitVec 32 := 0#32
  let v114 : BitVec 1 := Scalar.cmpi .sgt c8_i32 c0_i32_36
  let v115 : BitVec 32 := Scalar.extui v114
  let c0_i32_37 : BitVec 32 := 0#32
  let v116 : BitVec 1 := Scalar.cmpi .slt c8_i32 c0_i32_37
  let v117 : BitVec 32 := Scalar.extui v116
  let v118 : BitVec 32 := Scalar.subi v115 v117
  let v119 : BitVec 1 := Scalar.cmpi .ne v113 v118
  let v120 : BitVec 32 := Scalar.remsi v103 c8_i32
  let c0_i32_38 : BitVec 32 := 0#32
  let v121 : BitVec 1 := Scalar.cmpi .ne v120 c0_i32_38
  let v122 : BitVec 1 := Scalar.andi v119 v121
  let v108 : BitVec 32 := Scalar.divsi v103 c8_i32
  let c1_i32 : BitVec 32 := 1#32
  let v123 : BitVec 32 := Scalar.subi v108 c1_i32
  let v124 : BitVec 32 := Scalar.select v122 v123 v108
  let c8_i32_39 : BitVec 32 := 8#32
  let v125 : BitVec 32 := Scalar.muli v124 c8_i32_39
  let c480_i32 : BitVec 32 := 480#32
  let v126 : BitVec 32 := Scalar.minsi v125 c480_i32
  let v127 : BitVec 32 := v126
  let v138 : Index := Scalar.indexCast v127
  let c0_42 : Index := 0#32
  ![v138.toNat, 0]

def k0_chk1 (v103 : BitVec 32) : Prop :=
  (8 ∣ (k0_mult1 v103).toNat) ∧
  (∀ a, (k0_off2 v103) a + S32x256.size a ≤ S512x256.size a)
theorem k0_mult1_dvd : ∀ (v103 : BitVec 32) (k0_hw1 : k0_chk1 v103), 8 ∣ (k0_mult1 v103).toNat := fun v103 k0_hw1 => k0_hw1.1
theorem k0_off2_inb : ∀ (v103 : BitVec 32) (k0_hw1 : k0_chk1 v103), ∀ a, (k0_off2 v103) a + S32x256.size a ≤ S512x256.size a := fun v103 k0_hw1 => k0_hw1.2

def k0_mult2 (arg8 : BitVec 32) : BitVec 32 :=
  let c480_i32_126 : BitVec 32 := 480#32
  let v341 : BitVec 32 := Scalar.minsi arg8 c480_i32_126
  v341

def k0_off3 (arg8 : BitVec 32) : Fin 2 → Nat :=
  let c480_i32_126 : BitVec 32 := 480#32
  let v341 : BitVec 32 := Scalar.minsi arg8 c480_i32_126
  let v342 : BitVec 32 := v341
  let v357 : Index := Scalar.indexCast v342
  let c0_129 : Index := 0#32
  ![v357.toNat, 0]

def k0_chk2 (arg8 : BitVec 32) : Prop :=
  (8 ∣ (k0_mult2 arg8).toNat) ∧
  (∀ a, (k0_off3 arg8) a + S32x256.size a ≤ S512x256.size a)
theorem k0_mult2_dvd : ∀ (arg8 : BitVec 32) (k0_hw2 : k0_chk2 arg8), 8 ∣ (k0_mult2 arg8).toNat := fun arg8 k0_hw2 => k0_hw2.1
theorem k0_off3_inb : ∀ (arg8 : BitVec 32) (k0_hw2 : k0_chk2 arg8), ∀ a, (k0_off3 arg8) a + S32x256.size a ≤ S512x256.size a := fun arg8 k0_hw2 => k0_hw2.2

def k0_off4 (i : grid0.Coords) : Fin 1 → Nat :=
  let c5_i32_47 : BitVec 32 := 5#32
  let arg0 : BitVec 32 := BitVec.ofNat 32 (i 0).val
  let v148 : BitVec 32 := Scalar.muli c5_i32_47 arg0
  let c1_i32_48 : BitVec 32 := 1#32
  let v149 : BitVec 32 := Scalar.addi v148 c1_i32_48
  let v150 : Index := Scalar.indexCast v149
  ![v150.toNat]
def k0_mult3 (v151 : BitVec 32) : BitVec 32 :=
  let c0_i32_52 : BitVec 32 := 0#32
  let v157 : BitVec 1 := Scalar.cmpi .sgt v151 c0_i32_52
  let v158 : BitVec 32 := Scalar.extui v157
  let c0_i32_53 : BitVec 32 := 0#32
  let v159 : BitVec 1 := Scalar.cmpi .slt v151 c0_i32_53
  let v160 : BitVec 32 := Scalar.extui v159
  let v161 : BitVec 32 := Scalar.subi v158 v160
  let c8_i32_51 : BitVec 32 := 8#32
  let c0_i32_54 : BitVec 32 := 0#32
  let v162 : BitVec 1 := Scalar.cmpi .sgt c8_i32_51 c0_i32_54
  let v163 : BitVec 32 := Scalar.extui v162
  let c0_i32_55 : BitVec 32 := 0#32
  let v164 : BitVec 1 := Scalar.cmpi .slt c8_i32_51 c0_i32_55
  let v165 : BitVec 32 := Scalar.extui v164
  let v166 : BitVec 32 := Scalar.subi v163 v165
  let v167 : BitVec 1 := Scalar.cmpi .ne v161 v166
  let v168 : BitVec 32 := Scalar.remsi v151 c8_i32_51
  let c0_i32_56 : BitVec 32 := 0#32
  let v169 : BitVec 1 := Scalar.cmpi .ne v168 c0_i32_56
  let v170 : BitVec 1 := Scalar.andi v167 v169
  let v156 : BitVec 32 := Scalar.divsi v151 c8_i32_51
  let c1_i32_57 : BitVec 32 := 1#32
  let v171 : BitVec 32 := Scalar.subi v156 c1_i32_57
  let v172 : BitVec 32 := Scalar.select v170 v171 v156
  let c8_i32_58 : BitVec 32 := 8#32
  let v173 : BitVec 32 := Scalar.muli v172 c8_i32_58
  let c480_i32_59 : BitVec 32 := 480#32
  let v174 : BitVec 32 := Scalar.minsi v173 c480_i32_59
  v174

def k0_off5 (v151 : BitVec 32) : Fin 2 → Nat :=
  let c0_i32_52 : BitVec 32 := 0#32
  let v157 : BitVec 1 := Scalar.cmpi .sgt v151 c0_i32_52
  let v158 : BitVec 32 := Scalar.extui v157
  let c0_i32_53 : BitVec 32 := 0#32
  let v159 : BitVec 1 := Scalar.cmpi .slt v151 c0_i32_53
  let v160 : BitVec 32 := Scalar.extui v159
  let v161 : BitVec 32 := Scalar.subi v158 v160
  let c8_i32_51 : BitVec 32 := 8#32
  let c0_i32_54 : BitVec 32 := 0#32
  let v162 : BitVec 1 := Scalar.cmpi .sgt c8_i32_51 c0_i32_54
  let v163 : BitVec 32 := Scalar.extui v162
  let c0_i32_55 : BitVec 32 := 0#32
  let v164 : BitVec 1 := Scalar.cmpi .slt c8_i32_51 c0_i32_55
  let v165 : BitVec 32 := Scalar.extui v164
  let v166 : BitVec 32 := Scalar.subi v163 v165
  let v167 : BitVec 1 := Scalar.cmpi .ne v161 v166
  let v168 : BitVec 32 := Scalar.remsi v151 c8_i32_51
  let c0_i32_56 : BitVec 32 := 0#32
  let v169 : BitVec 1 := Scalar.cmpi .ne v168 c0_i32_56
  let v170 : BitVec 1 := Scalar.andi v167 v169
  let v156 : BitVec 32 := Scalar.divsi v151 c8_i32_51
  let c1_i32_57 : BitVec 32 := 1#32
  let v171 : BitVec 32 := Scalar.subi v156 c1_i32_57
  let v172 : BitVec 32 := Scalar.select v170 v171 v156
  let c8_i32_58 : BitVec 32 := 8#32
  let v173 : BitVec 32 := Scalar.muli v172 c8_i32_58
  let c480_i32_59 : BitVec 32 := 480#32
  let v174 : BitVec 32 := Scalar.minsi v173 c480_i32_59
  let v175 : BitVec 32 := v174
  let v186 : Index := Scalar.indexCast v175
  let c0_62 : Index := 0#32
  ![v186.toNat, 0]

def k0_chk3 (v151 : BitVec 32) : Prop :=
  (8 ∣ (k0_mult3 v151).toNat) ∧
  (∀ a, (k0_off5 v151) a + S32x256.size a ≤ S512x256.size a)
theorem k0_mult3_dvd : ∀ (v151 : BitVec 32) (k0_hw3 : k0_chk3 v151), 8 ∣ (k0_mult3 v151).toNat := fun v151 k0_hw3 => k0_hw3.1
theorem k0_off5_inb : ∀ (v151 : BitVec 32) (k0_hw3 : k0_chk3 v151), ∀ a, (k0_off5 v151) a + S32x256.size a ≤ S512x256.size a := fun v151 k0_hw3 => k0_hw3.2

def k0_mult4 (arg8 : BitVec 32) : BitVec 32 :=
  let c480_i32_126 : BitVec 32 := 480#32
  let v341 : BitVec 32 := Scalar.minsi arg8 c480_i32_126
  v341

def k0_off6 (arg8 : BitVec 32) : Fin 2 → Nat :=
  let c480_i32_126 : BitVec 32 := 480#32
  let v341 : BitVec 32 := Scalar.minsi arg8 c480_i32_126
  let v342 : BitVec 32 := v341
  let v357 : Index := Scalar.indexCast v342
  let c0_129 : Index := 0#32
  ![v357.toNat, 0]

def k0_chk4 (arg8 : BitVec 32) : Prop :=
  (8 ∣ (k0_mult4 arg8).toNat) ∧
  (∀ a, (k0_off6 arg8) a + S32x256.size a ≤ S512x256.size a)
theorem k0_mult4_dvd : ∀ (arg8 : BitVec 32) (k0_hw4 : k0_chk4 arg8), 8 ∣ (k0_mult4 arg8).toNat := fun arg8 k0_hw4 => k0_hw4.1
theorem k0_off6_inb : ∀ (arg8 : BitVec 32) (k0_hw4 : k0_chk4 arg8), ∀ a, (k0_off6 arg8) a + S32x256.size a ≤ S512x256.size a := fun arg8 k0_hw4 => k0_hw4.2

def k0_off7 (i : grid0.Coords) : Fin 1 → Nat :=
  let c5_i32_68 : BitVec 32 := 5#32
  let arg0 : BitVec 32 := BitVec.ofNat 32 (i 0).val
  let v196 : BitVec 32 := Scalar.muli c5_i32_68 arg0
  let c2_i32 : BitVec 32 := 2#32
  let v197 : BitVec 32 := Scalar.addi v196 c2_i32
  let v198 : Index := Scalar.indexCast v197
  ![v198.toNat]
def k0_mult5 (v199 : BitVec 32) : BitVec 32 :=
  let c0_i32_72 : BitVec 32 := 0#32
  let v205 : BitVec 1 := Scalar.cmpi .sgt v199 c0_i32_72
  let v206 : BitVec 32 := Scalar.extui v205
  let c0_i32_73 : BitVec 32 := 0#32
  let v207 : BitVec 1 := Scalar.cmpi .slt v199 c0_i32_73
  let v208 : BitVec 32 := Scalar.extui v207
  let v209 : BitVec 32 := Scalar.subi v206 v208
  let c8_i32_71 : BitVec 32 := 8#32
  let c0_i32_74 : BitVec 32 := 0#32
  let v210 : BitVec 1 := Scalar.cmpi .sgt c8_i32_71 c0_i32_74
  let v211 : BitVec 32 := Scalar.extui v210
  let c0_i32_75 : BitVec 32 := 0#32
  let v212 : BitVec 1 := Scalar.cmpi .slt c8_i32_71 c0_i32_75
  let v213 : BitVec 32 := Scalar.extui v212
  let v214 : BitVec 32 := Scalar.subi v211 v213
  let v215 : BitVec 1 := Scalar.cmpi .ne v209 v214
  let v216 : BitVec 32 := Scalar.remsi v199 c8_i32_71
  let c0_i32_76 : BitVec 32 := 0#32
  let v217 : BitVec 1 := Scalar.cmpi .ne v216 c0_i32_76
  let v218 : BitVec 1 := Scalar.andi v215 v217
  let v204 : BitVec 32 := Scalar.divsi v199 c8_i32_71
  let c1_i32_77 : BitVec 32 := 1#32
  let v219 : BitVec 32 := Scalar.subi v204 c1_i32_77
  let v220 : BitVec 32 := Scalar.select v218 v219 v204
  let c8_i32_78 : BitVec 32 := 8#32
  let v221 : BitVec 32 := Scalar.muli v220 c8_i32_78
  let c480_i32_79 : BitVec 32 := 480#32
  let v222 : BitVec 32 := Scalar.minsi v221 c480_i32_79
  v222

def k0_off8 (v199 : BitVec 32) : Fin 2 → Nat :=
  let c0_i32_72 : BitVec 32 := 0#32
  let v205 : BitVec 1 := Scalar.cmpi .sgt v199 c0_i32_72
  let v206 : BitVec 32 := Scalar.extui v205
  let c0_i32_73 : BitVec 32 := 0#32
  let v207 : BitVec 1 := Scalar.cmpi .slt v199 c0_i32_73
  let v208 : BitVec 32 := Scalar.extui v207
  let v209 : BitVec 32 := Scalar.subi v206 v208
  let c8_i32_71 : BitVec 32 := 8#32
  let c0_i32_74 : BitVec 32 := 0#32
  let v210 : BitVec 1 := Scalar.cmpi .sgt c8_i32_71 c0_i32_74
  let v211 : BitVec 32 := Scalar.extui v210
  let c0_i32_75 : BitVec 32 := 0#32
  let v212 : BitVec 1 := Scalar.cmpi .slt c8_i32_71 c0_i32_75
  let v213 : BitVec 32 := Scalar.extui v212
  let v214 : BitVec 32 := Scalar.subi v211 v213
  let v215 : BitVec 1 := Scalar.cmpi .ne v209 v214
  let v216 : BitVec 32 := Scalar.remsi v199 c8_i32_71
  let c0_i32_76 : BitVec 32 := 0#32
  let v217 : BitVec 1 := Scalar.cmpi .ne v216 c0_i32_76
  let v218 : BitVec 1 := Scalar.andi v215 v217
  let v204 : BitVec 32 := Scalar.divsi v199 c8_i32_71
  let c1_i32_77 : BitVec 32 := 1#32
  let v219 : BitVec 32 := Scalar.subi v204 c1_i32_77
  let v220 : BitVec 32 := Scalar.select v218 v219 v204
  let c8_i32_78 : BitVec 32 := 8#32
  let v221 : BitVec 32 := Scalar.muli v220 c8_i32_78
  let c480_i32_79 : BitVec 32 := 480#32
  let v222 : BitVec 32 := Scalar.minsi v221 c480_i32_79
  let v223 : BitVec 32 := v222
  let v234 : Index := Scalar.indexCast v223
  let c0_82 : Index := 0#32
  ![v234.toNat, 0]

def k0_chk5 (v199 : BitVec 32) : Prop :=
  (8 ∣ (k0_mult5 v199).toNat) ∧
  (∀ a, (k0_off8 v199) a + S32x256.size a ≤ S512x256.size a)
theorem k0_mult5_dvd : ∀ (v199 : BitVec 32) (k0_hw5 : k0_chk5 v199), 8 ∣ (k0_mult5 v199).toNat := fun v199 k0_hw5 => k0_hw5.1
theorem k0_off8_inb : ∀ (v199 : BitVec 32) (k0_hw5 : k0_chk5 v199), ∀ a, (k0_off8 v199) a + S32x256.size a ≤ S512x256.size a := fun v199 k0_hw5 => k0_hw5.2

def k0_mult6 (arg8 : BitVec 32) : BitVec 32 :=
  let c480_i32_126 : BitVec 32 := 480#32
  let v341 : BitVec 32 := Scalar.minsi arg8 c480_i32_126
  v341

def k0_off9 (arg8 : BitVec 32) : Fin 2 → Nat :=
  let c480_i32_126 : BitVec 32 := 480#32
  let v341 : BitVec 32 := Scalar.minsi arg8 c480_i32_126
  let v342 : BitVec 32 := v341
  let v357 : Index := Scalar.indexCast v342
  let c0_129 : Index := 0#32
  ![v357.toNat, 0]

def k0_chk6 (arg8 : BitVec 32) : Prop :=
  (8 ∣ (k0_mult6 arg8).toNat) ∧
  (∀ a, (k0_off9 arg8) a + S32x256.size a ≤ S512x256.size a)
theorem k0_mult6_dvd : ∀ (arg8 : BitVec 32) (k0_hw6 : k0_chk6 arg8), 8 ∣ (k0_mult6 arg8).toNat := fun arg8 k0_hw6 => k0_hw6.1
theorem k0_off9_inb : ∀ (arg8 : BitVec 32) (k0_hw6 : k0_chk6 arg8), ∀ a, (k0_off9 arg8) a + S32x256.size a ≤ S512x256.size a := fun arg8 k0_hw6 => k0_hw6.2

def k0_off10 (i : grid0.Coords) : Fin 1 → Nat :=
  let c5_i32_88 : BitVec 32 := 5#32
  let arg0 : BitVec 32 := BitVec.ofNat 32 (i 0).val
  let v244 : BitVec 32 := Scalar.muli c5_i32_88 arg0
  let c3_i32 : BitVec 32 := 3#32
  let v245 : BitVec 32 := Scalar.addi v244 c3_i32
  let v246 : Index := Scalar.indexCast v245
  ![v246.toNat]
def k0_mult7 (v247 : BitVec 32) : BitVec 32 :=
  let c0_i32_92 : BitVec 32 := 0#32
  let v253 : BitVec 1 := Scalar.cmpi .sgt v247 c0_i32_92
  let v254 : BitVec 32 := Scalar.extui v253
  let c0_i32_93 : BitVec 32 := 0#32
  let v255 : BitVec 1 := Scalar.cmpi .slt v247 c0_i32_93
  let v256 : BitVec 32 := Scalar.extui v255
  let v257 : BitVec 32 := Scalar.subi v254 v256
  let c8_i32_91 : BitVec 32 := 8#32
  let c0_i32_94 : BitVec 32 := 0#32
  let v258 : BitVec 1 := Scalar.cmpi .sgt c8_i32_91 c0_i32_94
  let v259 : BitVec 32 := Scalar.extui v258
  let c0_i32_95 : BitVec 32 := 0#32
  let v260 : BitVec 1 := Scalar.cmpi .slt c8_i32_91 c0_i32_95
  let v261 : BitVec 32 := Scalar.extui v260
  let v262 : BitVec 32 := Scalar.subi v259 v261
  let v263 : BitVec 1 := Scalar.cmpi .ne v257 v262
  let v264 : BitVec 32 := Scalar.remsi v247 c8_i32_91
  let c0_i32_96 : BitVec 32 := 0#32
  let v265 : BitVec 1 := Scalar.cmpi .ne v264 c0_i32_96
  let v266 : BitVec 1 := Scalar.andi v263 v265
  let v252 : BitVec 32 := Scalar.divsi v247 c8_i32_91
  let c1_i32_97 : BitVec 32 := 1#32
  let v267 : BitVec 32 := Scalar.subi v252 c1_i32_97
  let v268 : BitVec 32 := Scalar.select v266 v267 v252
  let c8_i32_98 : BitVec 32 := 8#32
  let v269 : BitVec 32 := Scalar.muli v268 c8_i32_98
  let c480_i32_99 : BitVec 32 := 480#32
  let v270 : BitVec 32 := Scalar.minsi v269 c480_i32_99
  v270

def k0_off11 (v247 : BitVec 32) : Fin 2 → Nat :=
  let c0_i32_92 : BitVec 32 := 0#32
  let v253 : BitVec 1 := Scalar.cmpi .sgt v247 c0_i32_92
  let v254 : BitVec 32 := Scalar.extui v253
  let c0_i32_93 : BitVec 32 := 0#32
  let v255 : BitVec 1 := Scalar.cmpi .slt v247 c0_i32_93
  let v256 : BitVec 32 := Scalar.extui v255
  let v257 : BitVec 32 := Scalar.subi v254 v256
  let c8_i32_91 : BitVec 32 := 8#32
  let c0_i32_94 : BitVec 32 := 0#32
  let v258 : BitVec 1 := Scalar.cmpi .sgt c8_i32_91 c0_i32_94
  let v259 : BitVec 32 := Scalar.extui v258
  let c0_i32_95 : BitVec 32 := 0#32
  let v260 : BitVec 1 := Scalar.cmpi .slt c8_i32_91 c0_i32_95
  let v261 : BitVec 32 := Scalar.extui v260
  let v262 : BitVec 32 := Scalar.subi v259 v261
  let v263 : BitVec 1 := Scalar.cmpi .ne v257 v262
  let v264 : BitVec 32 := Scalar.remsi v247 c8_i32_91
  let c0_i32_96 : BitVec 32 := 0#32
  let v265 : BitVec 1 := Scalar.cmpi .ne v264 c0_i32_96
  let v266 : BitVec 1 := Scalar.andi v263 v265
  let v252 : BitVec 32 := Scalar.divsi v247 c8_i32_91
  let c1_i32_97 : BitVec 32 := 1#32
  let v267 : BitVec 32 := Scalar.subi v252 c1_i32_97
  let v268 : BitVec 32 := Scalar.select v266 v267 v252
  let c8_i32_98 : BitVec 32 := 8#32
  let v269 : BitVec 32 := Scalar.muli v268 c8_i32_98
  let c480_i32_99 : BitVec 32 := 480#32
  let v270 : BitVec 32 := Scalar.minsi v269 c480_i32_99
  let v271 : BitVec 32 := v270
  let v282 : Index := Scalar.indexCast v271
  let c0_102 : Index := 0#32
  ![v282.toNat, 0]

def k0_chk7 (v247 : BitVec 32) : Prop :=
  (8 ∣ (k0_mult7 v247).toNat) ∧
  (∀ a, (k0_off11 v247) a + S32x256.size a ≤ S512x256.size a)
theorem k0_mult7_dvd : ∀ (v247 : BitVec 32) (k0_hw7 : k0_chk7 v247), 8 ∣ (k0_mult7 v247).toNat := fun v247 k0_hw7 => k0_hw7.1
theorem k0_off11_inb : ∀ (v247 : BitVec 32) (k0_hw7 : k0_chk7 v247), ∀ a, (k0_off11 v247) a + S32x256.size a ≤ S512x256.size a := fun v247 k0_hw7 => k0_hw7.2

def k0_mult8 (arg8 : BitVec 32) : BitVec 32 :=
  let c480_i32_126 : BitVec 32 := 480#32
  let v341 : BitVec 32 := Scalar.minsi arg8 c480_i32_126
  v341

def k0_off12 (arg8 : BitVec 32) : Fin 2 → Nat :=
  let c480_i32_126 : BitVec 32 := 480#32
  let v341 : BitVec 32 := Scalar.minsi arg8 c480_i32_126
  let v342 : BitVec 32 := v341
  let v357 : Index := Scalar.indexCast v342
  let c0_129 : Index := 0#32
  ![v357.toNat, 0]

def k0_chk8 (arg8 : BitVec 32) : Prop :=
  (8 ∣ (k0_mult8 arg8).toNat) ∧
  (∀ a, (k0_off12 arg8) a + S32x256.size a ≤ S512x256.size a)
theorem k0_mult8_dvd : ∀ (arg8 : BitVec 32) (k0_hw8 : k0_chk8 arg8), 8 ∣ (k0_mult8 arg8).toNat := fun arg8 k0_hw8 => k0_hw8.1
theorem k0_off12_inb : ∀ (arg8 : BitVec 32) (k0_hw8 : k0_chk8 arg8), ∀ a, (k0_off12 arg8) a + S32x256.size a ≤ S512x256.size a := fun arg8 k0_hw8 => k0_hw8.2

def k0_off13 (i : grid0.Coords) : Fin 1 → Nat :=
  let c5_i32_108 : BitVec 32 := 5#32
  let arg0 : BitVec 32 := BitVec.ofNat 32 (i 0).val
  let v292 : BitVec 32 := Scalar.muli c5_i32_108 arg0
  let c4_i32 : BitVec 32 := 4#32
  let v293 : BitVec 32 := Scalar.addi v292 c4_i32
  let v294 : Index := Scalar.indexCast v293
  ![v294.toNat]
def k0_mult9 (v295 : BitVec 32) : BitVec 32 :=
  let c0_i32_112 : BitVec 32 := 0#32
  let v301 : BitVec 1 := Scalar.cmpi .sgt v295 c0_i32_112
  let v302 : BitVec 32 := Scalar.extui v301
  let c0_i32_113 : BitVec 32 := 0#32
  let v303 : BitVec 1 := Scalar.cmpi .slt v295 c0_i32_113
  let v304 : BitVec 32 := Scalar.extui v303
  let v305 : BitVec 32 := Scalar.subi v302 v304
  let c8_i32_111 : BitVec 32 := 8#32
  let c0_i32_114 : BitVec 32 := 0#32
  let v306 : BitVec 1 := Scalar.cmpi .sgt c8_i32_111 c0_i32_114
  let v307 : BitVec 32 := Scalar.extui v306
  let c0_i32_115 : BitVec 32 := 0#32
  let v308 : BitVec 1 := Scalar.cmpi .slt c8_i32_111 c0_i32_115
  let v309 : BitVec 32 := Scalar.extui v308
  let v310 : BitVec 32 := Scalar.subi v307 v309
  let v311 : BitVec 1 := Scalar.cmpi .ne v305 v310
  let v312 : BitVec 32 := Scalar.remsi v295 c8_i32_111
  let c0_i32_116 : BitVec 32 := 0#32
  let v313 : BitVec 1 := Scalar.cmpi .ne v312 c0_i32_116
  let v314 : BitVec 1 := Scalar.andi v311 v313
  let v300 : BitVec 32 := Scalar.divsi v295 c8_i32_111
  let c1_i32_117 : BitVec 32 := 1#32
  let v315 : BitVec 32 := Scalar.subi v300 c1_i32_117
  let v316 : BitVec 32 := Scalar.select v314 v315 v300
  let c8_i32_118 : BitVec 32 := 8#32
  let v317 : BitVec 32 := Scalar.muli v316 c8_i32_118
  let c480_i32_119 : BitVec 32 := 480#32
  let v318 : BitVec 32 := Scalar.minsi v317 c480_i32_119
  v318

def k0_off14 (v295 : BitVec 32) : Fin 2 → Nat :=
  let c0_i32_112 : BitVec 32 := 0#32
  let v301 : BitVec 1 := Scalar.cmpi .sgt v295 c0_i32_112
  let v302 : BitVec 32 := Scalar.extui v301
  let c0_i32_113 : BitVec 32 := 0#32
  let v303 : BitVec 1 := Scalar.cmpi .slt v295 c0_i32_113
  let v304 : BitVec 32 := Scalar.extui v303
  let v305 : BitVec 32 := Scalar.subi v302 v304
  let c8_i32_111 : BitVec 32 := 8#32
  let c0_i32_114 : BitVec 32 := 0#32
  let v306 : BitVec 1 := Scalar.cmpi .sgt c8_i32_111 c0_i32_114
  let v307 : BitVec 32 := Scalar.extui v306
  let c0_i32_115 : BitVec 32 := 0#32
  let v308 : BitVec 1 := Scalar.cmpi .slt c8_i32_111 c0_i32_115
  let v309 : BitVec 32 := Scalar.extui v308
  let v310 : BitVec 32 := Scalar.subi v307 v309
  let v311 : BitVec 1 := Scalar.cmpi .ne v305 v310
  let v312 : BitVec 32 := Scalar.remsi v295 c8_i32_111
  let c0_i32_116 : BitVec 32 := 0#32
  let v313 : BitVec 1 := Scalar.cmpi .ne v312 c0_i32_116
  let v314 : BitVec 1 := Scalar.andi v311 v313
  let v300 : BitVec 32 := Scalar.divsi v295 c8_i32_111
  let c1_i32_117 : BitVec 32 := 1#32
  let v315 : BitVec 32 := Scalar.subi v300 c1_i32_117
  let v316 : BitVec 32 := Scalar.select v314 v315 v300
  let c8_i32_118 : BitVec 32 := 8#32
  let v317 : BitVec 32 := Scalar.muli v316 c8_i32_118
  let c480_i32_119 : BitVec 32 := 480#32
  let v318 : BitVec 32 := Scalar.minsi v317 c480_i32_119
  let v319 : BitVec 32 := v318
  let v330 : Index := Scalar.indexCast v319
  let c0_122 : Index := 0#32
  ![v330.toNat, 0]

def k0_chk9 (v295 : BitVec 32) : Prop :=
  (8 ∣ (k0_mult9 v295).toNat) ∧
  (∀ a, (k0_off14 v295) a + S32x256.size a ≤ S512x256.size a)
theorem k0_mult9_dvd : ∀ (v295 : BitVec 32) (k0_hw9 : k0_chk9 v295), 8 ∣ (k0_mult9 v295).toNat := fun v295 k0_hw9 => k0_hw9.1
theorem k0_off14_inb : ∀ (v295 : BitVec 32) (k0_hw9 : k0_chk9 v295), ∀ a, (k0_off14 v295) a + S32x256.size a ≤ S512x256.size a := fun v295 k0_hw9 => k0_hw9.2

def k0_mult10 (arg8 : BitVec 32) : BitVec 32 :=
  let c480_i32_126 : BitVec 32 := 480#32
  let v341 : BitVec 32 := Scalar.minsi arg8 c480_i32_126
  v341

def k0_off15 (arg8 : BitVec 32) : Fin 2 → Nat :=
  let c480_i32_126 : BitVec 32 := 480#32
  let v341 : BitVec 32 := Scalar.minsi arg8 c480_i32_126
  let v342 : BitVec 32 := v341
  let v357 : Index := Scalar.indexCast v342
  let c0_129 : Index := 0#32
  ![v357.toNat, 0]

def k0_chk10 (arg8 : BitVec 32) : Prop :=
  (8 ∣ (k0_mult10 arg8).toNat) ∧
  (∀ a, (k0_off15 arg8) a + S32x256.size a ≤ S512x256.size a)
theorem k0_mult10_dvd : ∀ (arg8 : BitVec 32) (k0_hw10 : k0_chk10 arg8), 8 ∣ (k0_mult10 arg8).toNat := fun arg8 k0_hw10 => k0_hw10.1
theorem k0_off15_inb : ∀ (arg8 : BitVec 32) (k0_hw10 : k0_chk10 arg8), ∀ a, (k0_off15 arg8) a + S32x256.size a ≤ S512x256.size a := fun arg8 k0_hw10 => k0_hw10.2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x10000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S100000x256 : Shape := ⟨2, ![100000, 256]⟩
abbrev S100000 : Shape := ⟨1, ![100000]⟩
abbrev S256x1 : Shape := ⟨2, ![256, 1]⟩
abbrev S100000x1 : Shape := ⟨2, ![100000, 1]⟩
abbrev S_ : Shape := ⟨0, ![]⟩
abbrev S1 : Shape := ⟨1, ![1]⟩
abbrev S512x256 : Shape := ⟨2, ![512, 256]⟩

abbrev nBuf : Space → Nat
  | .hbm => 25
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S100000, .i32⟩
  | .hbm, ⟨2, _⟩ => ⟨S256x1, .f32⟩
  | .hbm, ⟨3, _⟩ => ⟨S100000x1, .f32⟩
  | .hbm, ⟨4, _⟩ => ⟨S100000, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1, .f32⟩
  | .hbm, ⟨10, _⟩ => ⟨S100000, .f32⟩
  | .hbm, ⟨11, _⟩ => ⟨S100000, .f32⟩
  | .hbm, ⟨12, _⟩ => ⟨S100000, .f32⟩
  | .hbm, ⟨13, _⟩ => ⟨S_, .f32⟩
  | .hbm, ⟨14, _⟩ => ⟨S_, .f32⟩
  | .hbm, ⟨15, _⟩ => ⟨S1, .f32⟩
  | .hbm, ⟨16, _⟩ => ⟨S100000, .f32⟩
  | .hbm, ⟨17, _⟩ => ⟨S100000, .f32⟩
  | .hbm, ⟨18, _⟩ => ⟨S100000x1, .f32⟩
  | .hbm, ⟨19, _⟩ => ⟨S100000x256, .f32⟩
  | .hbm, ⟨20, _⟩ => ⟨S100000x256, .f32⟩
  | .hbm, ⟨21, _⟩ => ⟨S_, .f32⟩
  | .hbm, ⟨22, _⟩ => ⟨S512x256, .f32⟩
  | .hbm, ⟨23, _⟩ => ⟨S100000x1, .i32⟩
  | .hbm, ⟨24, _⟩ => ⟨S512x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Proof.Pool.Rules.lean ====
/-
  Rules of the logic for a memref held by what it READS (`owns c m q X`: the memref's elements, at contents the memref
  reads as `X`): a load continues at a part of `X`, a store leaves `X` with the payload put over a window, a
  read-modify-write of a window leaves the window's new values. They are stated for any signature, so that both printed
  kernels are run by them.
-/
module

public import Idealize.ShloMosaic.Lib.Tactic
public import Idealize.ShloMosaic.Lib.VecWindow
public import Idealize.ShloMosaic.Lib.Pipeline.Frame

@[expose] public section

noncomputable section

namespace Cert.Pool

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

section
variable {nD : Nat} {τ : Topo} {sig : RefSig} {Ix : Type} [DecidableEq Ix]
variable {Val : EltTy → Type} {Name : Type} [DecidableEq Name]
variable {U : Type} [URA U] {Lvl : Type} [Preorder Lvl] {Λ : Labels}

variable {defs : Defs nD τ sig Val Λ} (𝒱 : Variants) (c : Thread nD τ) (bd : Option 𝒱.V) (E : Set Name)
variable {cs : CoreSpace} {s : Shape} {e : EltTy} {α : Type} {R : α → sProp (MT nD τ sig Ix Val Name U Lvl)}

/-- A load of a unit-stride rectangle, the memref held at `X` at any share, continues at that window `v` of `X`. -/
theorem wp_load_owned {m : Memref sig c.2.kind cs s e} {off off' size : Fin s.rank → ℕ} {inb : ∀ a, off a + size a ≤ s.size a}
    {hl : m.view.LoadsAt (Rect.unit off size inb).toLoadRect}
    {k : ((Rect.unit off size inb).toLoadRect.shape.Idx → Val e) → Prog (TpuEff nD τ sig Val Λ c.2) α}
    {q : PosShare TreeShare} {X : s.Idx → Val e} {v : (Rect.unit off size inb).toLoadRect.shape.Idx → Val e} (h : off = off')
    (inb' : ∀ a, off' a + size a ≤ s.size a) (hv : VecWindow.window X off' size inb' = v) :
    (owns c m q X : sProp (MT nD τ sig Ix Val Name U Lvl))
      ⊢ iprop((owns c m q X -∗ wp frame (wpE defs 𝒱 c bd) E (k v) R)
        -∗ wp frame (wpE defs 𝒱 c bd) E (.op (.load m (Rect.unit off size inb).toLoadRect hl) k) R) := by
  subst h hv
  unfold owns
  iintro ⟨%f, %hf, H⟩ Hk
  subst hf
  iapply (wp_load 𝒱 c bd E (m := m) (r := (Rect.unit off size inb).toLoadRect) (hl := hl) (k := k) (S := m.view.set) (f := f) (View.setOn_subset_set _ _)) $$ H
  iintro H
  iapply Hk
  iexists f
  isplitr
  · ipureintro; rfl
  iexact H

/-- A store over a unit-stride rectangle, the memref held at `X`, leaves `X'`: `X` with the payload over that window. -/
theorem wp_store_owned {m : Memref sig c.2.kind cs s e} {off off' size : Fin s.rank → ℕ} {inb : ∀ a, off a + size a ≤ s.size a}
    {w : (Rect.unit off size inb).shape.Idx → Val e}
    {hx : (m.access (Rect.unit off size inb)).Stores Finset.univ} {hm : (Finset.univ : Finset (Rect.unit off size inb).shape.Idx) = Finset.univ ∨ ∀ a, (Rect.unit off size inb).stride a = 1}
    {k : PUnit → Prog (TpuEff nD τ sig Val Λ c.2) α} {X X' : s.Idx → Val e} (h : off = off')
    (hX : VecWindow.put X off' size w = X') :
    (owns c m fullShare X : sProp (MT nD τ sig Ix Val Name U Lvl))
      ⊢ iprop((owns c m fullShare X' -∗ wp frame (wpE defs 𝒱 c bd) E (k ⟨⟩) R)
        -∗ wp frame (wpE defs 𝒱 c bd) E (.op (.store m (Rect.unit off size inb) w Finset.univ hx hm) k) R) := by
  subst hX
  unfold owns
  iintro ⟨%f, %hf, H⟩ Hk
  subst hf
  iapply (wp_store 𝒱 c bd E (m := m) (r := Rect.unit off size inb) (w := w) (Mk := Finset.univ) (hx := hx) (hm := hm) (k := k) (S := m.view.set) (f := f)
    (by rw [View.setOn_univ]; exact View.set_slice_subset _ _)) $$ H
  iintro H
  iapply Hk
  iexists ((m.access (Rect.unit off size inb)).write Val f w Finset.univ)
  isplitr
  · ipureintro; exact View.read_writes_cons_put m.view f inb w [] h
  iexact H

/-- Putting values over the whole shape leaves those values. -/
theorem put_full {β : Type} (x : s.Idx → β) {off : Fin s.rank → ℕ} (inb : ∀ a, off a + s.size a ≤ s.size a) (w : s.Idx → β) :
    VecWindow.put x off s.size w = w := by
  funext y
  unfold VecWindow.put
  rw [dif_pos (fun a => by have := inb a; have := (y a).isLt; omega)]
  exact congrArg w (funext fun a => Fin.ext (by
    show (y a).val - off a = (y a).val
    have := inb a; omega))

/-- The window of the whole shape is everything. -/
theorem window_full {β : Type} (x : s.Idx → β) {off : Fin s.rank → ℕ} (inb : ∀ a, off a + s.size a ≤ s.size a) :
    VecWindow.window x off s.size inb = x := by
  funext y
  exact congrArg x (funext fun a => Fin.ext (by
    show off a + 1 * (y a).val = (y a).val
    have := inb a; omega))

/-- The read-modify-write of a window — load, load again, store a function of the first load — leaves `X'`:
    `X` with the window's values replaced by that function of them. -/
theorem wp_update {m : Memref sig c.2.kind cs s e} {off off' size : Fin s.rank → ℕ} {inb : ∀ a, off a + size a ≤ s.size a}
    {hl hl' : m.view.LoadsAt (Rect.unit off size inb).toLoadRect}
    {w : ((Rect.unit off size inb).toLoadRect.shape.Idx → Val e) → (Rect.unit off size inb).shape.Idx → Val e}
    {hx : (m.access (Rect.unit off size inb)).Stores Finset.univ} {hm : (Finset.univ : Finset (Rect.unit off size inb).shape.Idx) = Finset.univ ∨ ∀ a, (Rect.unit off size inb).stride a = 1}
    {k : PUnit → Prog (TpuEff nD τ sig Val Λ c.2) α} {X X' : s.Idx → Val e} (h : off = off')
    (inb' : ∀ a, off' a + size a ≤ s.size a) (hX : VecWindow.put X off' size (w (VecWindow.window X off' size inb')) = X') :
    (owns c m fullShare X : sProp (MT nD τ sig Ix Val Name U Lvl))
      ⊢ iprop((owns c m fullShare X' -∗ wp frame (wpE defs 𝒱 c bd) E (k ⟨⟩) R)
        -∗ wp frame (wpE defs 𝒱 c bd) E (.op (.load m (Rect.unit off size inb).toLoadRect hl) fun v =>
            .op (.load m (Rect.unit off size inb).toLoadRect hl') fun _ =>
            .op (.store m (Rect.unit off size inb) (w v) Finset.univ hx hm) k) R) := by
  iintro H Hk
  iapply (wp_load_owned 𝒱 c bd E h inb' rfl) $$ H
  iintro H
  iapply (wp_load_owned 𝒱 c bd E h inb' rfl) $$ H
  iintro H
  iapply (wp_store_owned 𝒱 c bd E h hX) $$ H
  iexact Hk

/-- A load of one word of scalar memory, the memref held at `X` at any share, continues at that word of `X`. -/
theorem wp_word_owned {m : Memref sig c.2.kind .smem s e} {off off' size : Fin s.rank → ℕ} {inb : ∀ a, off a + size a ≤ s.size a}
    {h1 : (Rect.unit off size inb).shape.numel = 1} {hp : e.packing = 1} {k : Val e → Prog (TpuEff nD τ sig Val Λ c.2) α}
    {q : PosShare TreeShare} {X : s.Idx → Val e} {w : Val e} (h : off = off') (inb' : ∀ a, off' a + size a ≤ s.size a)
    (hw : VecWindow.window X off' size inb' (Shape.Idx.first (h1.symm ▸ Nat.one_pos)) = w) :
    (owns c m q X : sProp (MT nD τ sig Ix Val Name U Lvl))
      ⊢ iprop((owns c m q X -∗ wp frame (wpE defs 𝒱 c bd) E (k w) R)
        -∗ wp frame (wpE defs 𝒱 c bd) E (smemLoad m (Rect.unit off size inb) h1 hp >>= k) R) := by
  simp only [smemLoad, smemLoadElt, Prog.bind_op, Prog.bind_ret]
  iintro H Hk
  iapply (wp_load_owned 𝒱 c bd E h inb' rfl) $$ H
  iintro H
  subst hw
  iapply Hk $$ H

/-- The same of the whole memref. -/
theorem wp_update_full {m : Memref sig c.2.kind cs s e} {off : Fin s.rank → ℕ} {inb : ∀ a, off a + s.size a ≤ s.size a}
    {hl hl' : m.view.LoadsAt (Rect.unit off s.size inb).toLoadRect}
    {w : ((Rect.unit off s.size inb).toLoadRect.shape.Idx → Val e) → (Rect.unit off s.size inb).shape.Idx → Val e}
    {hx : (m.access (Rect.unit off s.size inb)).Stores Finset.univ} {hm : (Finset.univ : Finset (Rect.unit off s.size inb).shape.Idx) = Finset.univ ∨ ∀ a, (Rect.unit off s.size inb).stride a = 1}
    {k : PUnit → Prog (TpuEff nD τ sig Val Λ c.2) α} {X : s.Idx → Val e} :
    (owns c m fullShare X : sProp (MT nD τ sig Ix Val Name U Lvl))
      ⊢ iprop((owns c m fullShare (w X) -∗ wp frame (wpE defs 𝒱 c bd) E (k ⟨⟩) R)
        -∗ wp frame (wpE defs 𝒱 c bd) E (.op (.load m (Rect.unit off s.size inb).toLoadRect hl) fun v =>
            .op (.load m (Rect.unit off s.size inb).toLoadRect hl') fun _ =>
            .op (.store m (Rect.unit off s.size inb) (w v) Finset.univ hx hm) k) R) :=
  wp_update 𝒱 c bd E rfl inb (by rw [put_full _ inb, window_full _ inb])

end

end Cert.Pool

end
-- ==== Proof.Pool.Steps.lean ====
/-
  The kernel as functions of vectors. One grid point takes the accumulator, the running maximum and the running sum to
  the next ones; the functions here say how, over the payloads the kernel's program names: the scores of a half of 2000
  rows, the maximum, the rescaling factor, the weights, and the accumulation of a half into the 512 segments by windows
  of 32 rows, the first window at the half's first segment and the others by the while loop. With them, the facts about
  the words (segments below 512) that the program's checks ask.
-/
module

public import proofs.«01_k».proof.Proof.Gen.KernelIdeal.Skeleton
public import Idealize.ShloMosaic.Lib.VecWindow
public import Idealize.ShloMosaic.Lib.WordCmp

@[expose] public section

set_option maxRecDepth 16384

noncomputable section

namespace Cert.Pool

open Cert.KernelIdeal Cert.KernelIdeal.Gen
open Idealize.ShloMosaic

variable {F : FTy → Type} [FloatOps F]

/-! ### Words -/

/-- The segments the kernel works with: words below 512. -/
def Seg (w : BitVec 32) : Prop := w.toNat < 512

/-- A word below 512 is the word of a number below 512. -/
theorem Seg.eq {w : BitVec 32} (h : Seg w) : ∃ n : Fin 512, w = BitVec.ofNat 32 n.val :=
  ⟨⟨w.toNat, h⟩, by apply BitVec.eq_of_toNat_eq; simp only [BitVec.toNat_ofNat]; have := w.isLt; omega⟩

/-- The first window's base, for a half whose first segment is `n`: `n` rounded down to a multiple of 8, at most 480. -/
theorem base_ofNat : ∀ n : Fin 512, (k0_mult1 (BitVec.ofNat 32 n.val)).toNat = min (n.val / 8 * 8) 480
    ∧ k0_off2 (BitVec.ofNat 32 n.val) = ![min (n.val / 8 * 8) 480, 0] := by decide +kernel

theorem base_toNat {w : BitVec 32} (h : Seg w) : (k0_mult1 w).toNat = min (w.toNat / 8 * 8) 480 := by
  obtain ⟨n, rfl⟩ := h.eq
  rw [(base_ofNat n).1, BitVec.toNat_ofNat, Nat.mod_eq_of_lt (by omega)]

theorem off2_eq {w : BitVec 32} (h : Seg w) : k0_off2 w = ![min (w.toNat / 8 * 8) 480, 0] := by
  obtain ⟨n, rfl⟩ := h.eq
  rw [(base_ofNat n).2, BitVec.toNat_ofNat, Nat.mod_eq_of_lt (by omega)]

/-- A window of 32 rows whose first row is at most 480 lies inside the accumulator. -/
theorem inb_of_le {b : ℕ} (hb : b ≤ 480) : ∀ a, (![b, 0] : Fin 2 → ℕ) a + S32x256.size a ≤ S512x256.size a := by
  intro a; fin_cases a
  · show b + 32 ≤ 512; omega
  · show 0 + 256 ≤ 256; omega

/-- The check of a half's first segment holds for every segment. -/
theorem chk1_of_seg {w : BitVec 32} (h : Seg w) : k0_chk1 w := by
  refine ⟨?_, ?_⟩
  · rw [base_toNat h]; omega
  · rw [off2_eq h]; exact inb_of_le (by omega)

/-- What the while loop keeps of its counter: a multiple of 8, at most 512. -/
def Ctr (l : BitVec 32) : Prop := 8 ∣ l.toNat ∧ l.toNat ≤ 512

theorem lo_ofNat : ∀ n : Fin 513, (k0_mult2 (BitVec.ofNat 32 n.val)).toNat = min n.val 480
    ∧ k0_off3 (BitVec.ofNat 32 n.val) = ![min n.val 480, 0]
    ∧ (Scalar.addi (Scalar.minsi (BitVec.ofNat 32 n.val) 480#32) 32#32).toNat = min n.val 480 + 32 := by decide +kernel

theorem Ctr.eq {l : BitVec 32} (h : l.toNat ≤ 512) : ∃ n : Fin 513, l = BitVec.ofNat 32 n.val :=
  ⟨⟨l.toNat, by omega⟩, by apply BitVec.eq_of_toNat_eq; simp only [BitVec.toNat_ofNat]; have := l.isLt; omega⟩

theorem lo_toNat {l : BitVec 32} (h : l.toNat ≤ 512) : (k0_mult2 l).toNat = min l.toNat 480 := by
  obtain ⟨n, rfl⟩ := Ctr.eq h
  rw [(lo_ofNat n).1, BitVec.toNat_ofNat, Nat.mod_eq_of_lt (by omega)]

theorem off3_eq {l : BitVec 32} (h : l.toNat ≤ 512) : k0_off3 l = ![min l.toNat 480, 0] := by
  obtain ⟨n, rfl⟩ := Ctr.eq h
  rw [(lo_ofNat n).2.1, BitVec.toNat_ofNat, Nat.mod_eq_of_lt (by omega)]

/-- The next trip's counter: the row after the window. -/
def next (l : BitVec 32) : BitVec 32 := Scalar.addi (Scalar.minsi l 480#32) 32#32

theorem next_toNat {l : BitVec 32} (h : l.toNat ≤ 512) : (next l).toNat = min l.toNat 480 + 32 := by
  obtain ⟨n, rfl⟩ := Ctr.eq h
  unfold next
  rw [(lo_ofNat n).2.2, BitVec.toNat_ofNat, Nat.mod_eq_of_lt (by omega)]

theorem Ctr.next {l : BitVec 32} (h : Ctr l) : Ctr (next l) := by
  have h1 := h.1; have h2 := h.2
  refine ⟨?_, ?_⟩ <;> rw [next_toNat h2] <;> omega

/-- The check of a trip holds at every counter. -/
theorem Ctr.chk2 {l : BitVec 32} (h : Ctr l) : k0_chk2 l := by
  have h1 := h.1
  refine ⟨?_, ?_⟩
  · rw [lo_toNat h.2]; omega
  · rw [off3_eq h.2]; exact inb_of_le (by omega)

/-- The loop's condition, at a counter and a segment: the comparison of the numbers. -/
theorem sle_iff {l w : BitVec 32} (hl : Ctr l) (hw : Seg w) : Scalar.cmpi .sle l w = 1#1 ↔ l.toNat ≤ w.toNat := by
  have h1 := hl.2
  have h2 : w.toNat < 512 := hw
  have e : Scalar.cmpi .sle l w = IntOp.cmpi .sle l w := rfl
  rw [e, WordCmp.cmpi_sle_of_lt (by omega) (by omega)]
  by_cases h : l.toNat ≤ w.toNat <;> simp [h]

/-- The counter the loop starts at: the row after the first window. -/
def start (first : BitVec 32) : BitVec 32 := Scalar.addi (k0_mult1 first) 32#32

theorem start_toNat {w : BitVec 32} (h : Seg w) : (start w).toNat = min (w.toNat / 8 * 8) 480 + 32 := by
  have e : (start w).toNat = ((k0_mult1 w).toNat + 32) % 2 ^ 32 := BitVec.toNat_add _ _
  rw [e, base_toNat h, Nat.mod_eq_of_lt (by omega)]

theorem start_ctr {w : BitVec 32} (h : Seg w) : Ctr (start w) := by
  refine ⟨?_, ?_⟩ <;> rw [start_toNat h] <;> omega

/-! ### Windows of the accumulator -/

/-- The window of 32 rows at an offset, read with the row taken modulo the accumulator's rows (so that it is defined at
    every offset). -/
def rd {β : Type} (off : Fin 2 → ℕ) (o : S512x256.Idx → β) : S32x256.Idx → β :=
  fun y => o (fun a => ⟨(off a + (y a).val) % S512x256.size a, Nat.mod_lt _ (by fin_cases a <;> decide)⟩)

/-- Inside the accumulator it is the window. -/
theorem window_eq_rd {β : Type} {off : Fin 2 → ℕ} (o : S512x256.Idx → β) (inb : ∀ a, off a + S32x256.size a ≤ S512x256.size a) :
    VecWindow.window o off S32x256.size inb = rd off o := by
  funext y
  refine congrArg o (funext fun a => Fin.ext ?_)
  show off a + 1 * (y a).val = (off a + (y a).val) % S512x256.size a
  have h1 := inb a
  have h2 : (y a).val < S32x256.size a := (y a).isLt
  rw [Nat.mod_eq_of_lt (by omega), Nat.one_mul]

/-! ### One half accumulated -/

/-- The row numbers of a window, as the program makes them. -/
def rows : IVec S32x2000 32 := iota .tc S32x2000 32 [0] iota_S32x2000_d0_w32

/-- The first window's accumulation. -/
def firstOut (first : BitVec 32) (ids : IVec S1x2000 32) (p : FVec F S1x2000 .f32) (x : FVec F S2000x256 .bf16)
    (o : FVec F S512x256 .f32) : FVec F S512x256 .f32 :=
  VecWindow.put o (k0_off2 first) S32x256.size (k0_pay41 x p rows ids first (rd (k0_off2 first) o))

/-- One trip's accumulation, at counter `l`. -/
def trip (ids : IVec S1x2000 32) (p : FVec F S1x2000 .f32) (x : FVec F S2000x256 .bf16) (l : BitVec 32)
    (o : FVec F S512x256 .f32) : FVec F S512x256 .f32 :=
  VecWindow.put o (k0_off3 l) S32x256.size (k0_pay3 rows ids p x l (rd (k0_off3 l) o))

/-- Both, with the window read where it lies inside the accumulator. -/
theorem firstOut_eq (first : BitVec 32) (ids : IVec S1x2000 32) (p : FVec F S1x2000 .f32) (x : FVec F S2000x256 .bf16)
    (o : FVec F S512x256 .f32) (inb : ∀ a, k0_off2 first a + S32x256.size a ≤ S512x256.size a) :
    firstOut first ids p x o
      = VecWindow.put o (k0_off2 first) S32x256.size (k0_pay41 x p rows ids first (VecWindow.window o (k0_off2 first) S32x256.size inb)) := by
  rw [window_eq_rd]; rfl

theorem trip_eq (ids : IVec S1x2000 32) (p : FVec F S1x2000 .f32) (x : FVec F S2000x256 .bf16) (l : BitVec 32)
    (o : FVec F S512x256 .f32) (inb : ∀ a, k0_off3 l a + S32x256.size a ≤ S512x256.size a) :
    trip ids p x l o
      = VecWindow.put o (k0_off3 l) S32x256.size (k0_pay3 rows ids p x l (VecWindow.window o (k0_off3 l) S32x256.size inb)) := by
  rw [window_eq_rd]; rfl

/-- The loop's accumulation from counter `l`, with at most `k` trips. -/
def loopOut (last : BitVec 32) (ids : IVec S1x2000 32) (p : FVec F S1x2000 .f32) (x : FVec F S2000x256 .bf16) :
    ℕ → BitVec 32 → FVec F S512x256 .f32 → FVec F S512x256 .f32
  | 0, _, o => o
  | k + 1, l, o => if Scalar.cmpi .sle l last = 1#1 then loopOut last ids p x k (next l) (trip ids p x l o) else o

/-- A half's accumulation: the first window, then the loop. -/
def halfOut (first last : BitVec 32) (ids : IVec S1x2000 32) (p : FVec F S1x2000 .f32) (x : FVec F S2000x256 .bf16)
    (o : FVec F S512x256 .f32) : FVec F S512x256 .f32 :=
  loopOut last ids p x 15 (start first) (firstOut first ids p x o)

/-! ### One grid point -/

/-- The point's rows of half `j`. -/
def xs (X : FVec F S10000x256 .f32) (j : Fin 5) : FVec F S2000x256 .f32 :=
  VecWindow.window X ![2000 * j.val, 0] S2000x256.size (by
    intro a; have := j.isLt; fin_cases a
    · show 2000 * j.val + 2000 ≤ 10000; omega
    · show 0 + 256 ≤ 256; omega)

/-- The point's segments of half `j`. -/
def is (I : IVec S1x1x10000 32) (j : Fin 5) : IVec S1x1x2000 32 :=
  VecWindow.window I ![0, 0, 2000 * j.val] S1x1x2000.size (by
    intro a; have := j.isLt; fin_cases a
    · show 0 + 1 ≤ 1; omega
    · show 0 + 1 ≤ 1; omega
    · show 2000 * j.val + 2000 ≤ 10000; omega)

/-- Half `j`'s rows as the product reads them, its segments as a row, and its scores. -/
def xb (X : FVec F S10000x256 .f32) (j : Fin 5) : FVec F S2000x256 .bf16 := k0_pay10 (xs X j)
def ids (I : IVec S1x1x10000 32) (j : Fin 5) : IVec S1x2000 32 :=
  shapeCast S1x2000 (is I j) shapeCasts_S1x1x2000_S1x2000
def sc (a : FVec F S256x1 .f32) (X : FVec F S10000x256 .f32) (j : Fin 5) : FVec F S1x2000 .f32 := k0_pay11 a (xs X j)

/-- The maxima the program takes first: of the first two halves, and of the third. -/
def m01 (a : FVec F S256x1 .f32) (X : FVec F S10000x256 .f32) : F .f32 := k0_pay20 a (xs X 0) (xs X 1)
def m2 (a : FVec F S256x1 .f32) (X : FVec F S10000x256 .f32) : FVec F S1x1x1 .f32 := k0_pay21 a (xs X 2)

/-- The point's maximum; the new running maximum, from the old one `m`; the rescaling factor; half `j`'s weights. -/
def blkMax (a : FVec F S256x1 .f32) (X : FVec F S10000x256 .f32) : F .f32 :=
  k0_pay22 (sc a X 3) (sc a X 4) (m01 a X) (m2 a X)
def newMax (a : FVec F S256x1 .f32) (X : FVec F S10000x256 .f32) (m : F .f32) : F .f32 :=
  k0_pay23 (sc a X 3) (sc a X 4) m (m01 a X) (m2 a X)
def alpha (a : FVec F S256x1 .f32) (X : FVec F S10000x256 .f32) (m : F .f32) : F .f32 :=
  k0_pay24 (sc a X 3) (sc a X 4) m (m01 a X) (m2 a X)
def prob (a : FVec F S256x1 .f32) (X : FVec F S10000x256 .f32) (m : F .f32) (j : Fin 5) : FVec F S1x2000 .f32 :=
  k0_pay25 (sc a X j) (sc a X 3) (sc a X 4) m (m01 a X) (m2 a X)

/-- The new running sum, from the old maximum and sum. -/
def newSum (a : FVec F S256x1 .f32) (X : FVec F S10000x256 .f32) (m s : F .f32) : F .f32 :=
  k0_pay32 (alpha a X m)
    (k0_pay30 (sc a X 0) (sc a X 1) (sc a X 2) (sc a X 3) (sc a X 4) m (m01 a X) (m2 a X))
    (k0_pay31 (sc a X 3) (sc a X 4) m (m01 a X) (m2 a X)) s

/-- The accumulator rescaled, where the point's maximum exceeds the running one. -/
def rescaled (a : FVec F S256x1 .f32) (X : FVec F S10000x256 .f32) (m : F .f32) (o : FVec F S512x256 .f32) : FVec F S512x256 .f32 :=
  if Scalar.cmpf .ogt (blkMax a X) m = 1#1 then k0_pay33 (alpha a X m) o else o

/-- The accumulator after the first `n` halves. -/
def halves (first last : Fin 5 → BitVec 32) (a : FVec F S256x1 .f32) (X : FVec F S10000x256 .f32) (I : IVec S1x1x10000 32) (m : F .f32)
    (o : FVec F S512x256 .f32) : ℕ → FVec F S512x256 .f32
  | 0 => o
  | n + 1 => if h : n < 5 then
      halfOut (first ⟨n, h⟩) (last ⟨n, h⟩) (ids I ⟨n, h⟩) (prob a X m ⟨n, h⟩) (xb X ⟨n, h⟩) (halves first last a X I m o n)
    else halves first last a X I m o n

/-- The accumulator after the point's five halves. -/
def accum (first last : Fin 5 → BitVec 32) (a : FVec F S256x1 .f32) (X : FVec F S10000x256 .f32) (I : IVec S1x1x10000 32) (m : F .f32)
    (o : FVec F S512x256 .f32) : FVec F S512x256 .f32 :=
  halves first last a X I m (rescaled a X m o) 5

/-- The two words of the statistics: the running maximum, then the running sum. -/
def st2 (m s : F .f32) : FVec F S2 .f32 := fun y => if (y 0).val = 0 then m else s

/-- What the first point starts from: a zero accumulator, the least value for a maximum, a zero sum. -/
def out0 : FVec F S512x256 .f32 := k0_pay8
def max0 : F .f32 := Scalar.ofBits .f32 0xFF800000#32
def sum0 : F .f32 := Scalar.ofBits .f32 0x00000000#32

/-- The statistics' second word, of any contents. -/
def snd (g : FVec F S2 .f32) : F .f32 := g (fun a => ⟨1, by fin_cases a; decide⟩)

/-- A word put over the statistics' first word leaves the second, and the other way round; each word is read back. -/
theorem put_st2_max (g : FVec F S2 .f32) (m : F .f32) : VecWindow.put g ![0] S1.size (fun _ => m) = st2 m (snd g) := by
  funext y
  unfold VecWindow.put st2
  have h2 : (y 0).val < 2 := (y 0).isLt
  by_cases h : (y 0).val = 0
  · rw [if_pos h, dif_pos]
    intro a; fin_cases a; show 0 ≤ (y 0).val ∧ (y 0).val < 0 + 1; omega
  · rw [if_neg h, dif_neg]
    · exact congrArg g (funext fun a => by fin_cases a; exact Fin.ext (by show (y 0).val = 1; omega))
    · intro hh; have h3 := (hh 0).2; have h4 : (y 0).val < 0 + 1 := h3; omega

theorem put_st2_sum (m s s' : F .f32) : VecWindow.put (st2 m s) ![1] S1.size (fun _ => s') = st2 m s' := by
  funext y
  unfold VecWindow.put st2
  have h2 : (y 0).val < 2 := (y 0).isLt
  by_cases h : (y 0).val = 0
  · rw [if_pos h, dif_neg, if_pos h]
    intro hh; have h3 := (hh 0).1; have h4 : 1 ≤ (y 0).val := h3; omega
  · rw [if_neg h, dif_pos (by intro a; fin_cases a; show 1 ≤ (y 0).val ∧ (y 0).val < 1 + 1; omega), if_neg h]

theorem put_st2_max' (m s m' : F .f32) : VecWindow.put (st2 m s) ![0] S1.size (fun _ => m') = st2 m' s := by
  rw [put_st2_max]; rfl

/-- The first word read is the maximum, the second the sum. -/
theorem window_st2_max (m s : F .f32) (inb : ∀ a, (![0] : Fin 1 → ℕ) a + S1.size a ≤ S2.size a) (y : S1.Idx) :
    VecWindow.window (st2 m s) ![0] S1.size inb y = m := by
  have h : (y 0).val = 0 := by have : (y 0).val < 1 := (y 0).isLt; omega
  show (if 0 + 1 * (y 0).val = 0 then m else s) = m
  rw [h]; rfl

theorem window_st2_sum (m s : F .f32) (inb : ∀ a, (![1] : Fin 1 → ℕ) a + S1.size a ≤ S2.size a) (y : S1.Idx) :
    VecWindow.window (st2 m s) ![1] S1.size inb y = s := by
  have h : (y 0).val = 0 := by have : (y 0).val < 1 := (y 0).isLt; omega
  show (if 1 + 1 * (y 0).val = 0 then m else s) = s
  rw [h]; rfl

/-! ### The run of points -/

/-- Word `n` of a table of 50. -/
def word (T : S50.Idx → BitVec 32) (n : ℕ) : BitVec 32 := T (fun a => ⟨n % 50, by fin_cases a; exact Nat.mod_lt n (by decide : 0 < 50)⟩)

theorem window_word (T : S50.Idx → BitVec 32) {off : Fin 1 → ℕ} {n : ℕ} (h : off = ![n]) (inb : ∀ a, off a + S1.size a ≤ S50.size a)
    (y : S1.Idx) : VecWindow.window T off S1.size inb y = word T n := by
  subst h
  have h : (y 0).val = 0 := by have : (y 0).val < 1 := (y 0).isLt; omega
  have hb : n + 1 ≤ 50 := inb 0
  unfold word VecWindow.window
  refine congrArg T (funext fun a => ?_)
  fin_cases a
  refine Fin.ext ?_
  show n + 1 * (y 0).val = n % 50
  rw [Nat.mod_eq_of_lt (by omega)]; omega

/-- The five words of point `t`. -/
def words (T : S50.Idx → BitVec 32) (t : ℕ) (j : Fin 5) : BitVec 32 := word T (5 * t + j.val)

/-- The state after `t` points — the accumulator, the running maximum, the running sum —, point `t` reading the rows
    `X t` and the segments `I t`. -/
def state (T1 T2 : S50.Idx → BitVec 32) (a : FVec F S256x1 .f32) (X : ℕ → FVec F S10000x256 .f32) (I : ℕ → IVec S1x1x10000 32) :
    ℕ → FVec F S512x256 .f32 × F .f32 × F .f32
  | 0 => (out0, max0, sum0)
  | t + 1 =>
    let r := state T1 T2 a X I t
    (accum (words T1 t) (words T2 t) a (X t) (I t) r.2.1 r.1, newMax a (X t) r.2.1, newSum a (X t) r.2.1 r.2.2)

/-- The accumulator divided by the running sum, as the last point leaves it. -/
def finish (o : FVec F S512x256 .f32) (s : F .f32) : FVec F S512x256 .f32 := k0_pay2 o s

/-- What the result's buffer holds after point `t`. -/
def outAfter (T1 T2 : S50.Idx → BitVec 32) (a : FVec F S256x1 .f32) (X : ℕ → FVec F S10000x256 .f32) (I : ℕ → IVec S1x1x10000 32)
    (t : ℕ) : FVec F S512x256 .f32 :=
  if t = 9 then finish (state T1 T2 a X I (t + 1)).1 (state T1 T2 a X I (t + 1)).2.2 else (state T1 T2 a X I (t + 1)).1

end Cert.Pool

end
-- ==== Proof.Pool.While.lean ====
/-
  The while loop of a half, at any label: while the counter is at most the half's last segment, the trip at that counter
  is accumulated and the counter moves past the window. The specification is "hold the accumulator at `o`, give it back
  after the trips", met by induction on the trips left.
-/
module

public import proofs.«01_k».proof.Proof.Pool.Rules
public import proofs.«01_k».proof.Proof.Pool.Steps

@[expose] public section

set_option maxRecDepth 16384

noncomputable section

namespace Cert.Pool

open Cert.KernelIdeal (S512x256 S32x256 S2000x256 S1x2000 S32x2000 k0_chk2 k0_off2 k0_off3)
open Cert.KernelIdeal.Gen (k0_pay3 k0_pay41)
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open sWPT (consume produce)

variable {F : FTy → Type} [FloatOps F]
variable {nD : Nat} {τ : Topo} {sig : RefSig} {Ix : Type} [DecidableEq Ix]
variable {Name : Type} [DecidableEq Name] {U : Type} [URA U] {Lvl : Type} [Preorder Lvl] {Λ : Labels}

/-- The loop's specification, with at most `k` trips left from counter `l`: hold the accumulator at `o`, give it back as the
    trips leave it, and return some word. -/
def whileSpec (c : Thread nD τ) (m : Memref sig c.2.kind .vmem S512x256 .f32) {R : Type} (last : BitVec 32) (ids : IVec S1x2000 32)
    (p : FVec F S1x2000 .f32) (x : FVec F S2000x256 .bf16) (k : ℕ) (l : BitVec 32) (o : FVec F S512x256 .f32) :
    sWPT (MT nD τ sig Ix (Elt F) Name U Lvl) R := do
  consume (owns c m fullShare o)
  let r ← sWPT.arbitrary
  produce (owns c m fullShare (loopOut last ids p x k l o))
  pure r

theorem whileSpec_apply (c : Thread nD τ) (m : Memref sig c.2.kind .vmem S512x256 .f32) {R : Type} (last : BitVec 32) (ids : IVec S1x2000 32)
    (p : FVec F S1x2000 .f32) (x : FVec F S2000x256 .bf16) (k : ℕ) (l : BitVec 32) (o : FVec F S512x256 .f32)
    (K : R → sProp (MT nD τ sig Ix (Elt F) Name U Lvl)) :
    whileSpec c m last ids p x k l o K
      = iprop(owns c m fullShare o ∗ ∀ r, (owns c m fullShare (loopOut last ids p x k l o) -∗ K r)) := rfl

/-- A label whose body is the loop's meets the specification: given the body at every counter (`hdef`), at a counter of
    which `k` trips of 32 rows reach the end, with the half's last segment below 512. -/
theorem while_spec {defs : Defs nD τ sig (Elt F) Λ} (c : Thread nD τ) (E : Set Name)
    {m : Memref sig c.2.kind .vmem S512x256 .f32} {ℓ : Λ.Label} {args : BitVec 32 → Λ.Args ℓ} {ret : BitVec 32 → Λ.Result ℓ}
    {last : BitVec 32} {ids : IVec S1x2000 32} {p : FVec F S1x2000 .f32} {x : FVec F S2000x256 .bf16}
    {d : ∀ l, Decidable (k0_chk2 l)}
    {hl : ∀ l (h : k0_chk2 l), m.view.LoadsAt (Rect.unit (s := S512x256) (k0_off3 l) S32x256.size h.2).toLoadRect}
    {hx : ∀ l (h : k0_chk2 l), (m.access (Rect.unit (s := S512x256) (k0_off3 l) S32x256.size h.2)).Stores Finset.univ}
    {hm : ∀ l (h : k0_chk2 l), (Finset.univ : Finset (Rect.unit (s := S512x256) (k0_off3 l) S32x256.size h.2).shape.Idx) = Finset.univ
      ∨ ∀ a, (Rect.unit (s := S512x256) (k0_off3 l) S32x256.size h.2).stride a = 1}
    (hdef : ∀ l, defs c.2 ℓ (args l) = if Scalar.cmpi .sle l last = 1#1 then
        .op (.assume (k0_chk2 l) (d l)) fun h =>
        .op (.load m (Rect.unit (s := S512x256) (k0_off3 l) S32x256.size h.down.2).toLoadRect (hl l h.down)) fun v =>
        .op (.load m (Rect.unit (s := S512x256) (k0_off3 l) S32x256.size h.down.2).toLoadRect (hl l h.down)) fun _ =>
        .op (.store m (Rect.unit (s := S512x256) (k0_off3 l) S32x256.size h.down.2) (k0_pay3 rows ids p x l v) Finset.univ (hx l h.down) (hm l h.down)) fun _ =>
        .op (.call ℓ (args (next l))) .ret
      else .ret (ret l))
    (hlast : Seg last) :
    ∀ (k : ℕ) (l : BitVec 32) (o : FVec F S512x256 .f32), Ctr l → 512 ≤ l.toNat + 32 * k → ∀ K : Λ.Result ℓ → sProp (MT nD τ sig Ix (Elt F) Name U Lvl),
      whileSpec c m last ids p x k l o K ⊢ wp frame (wpE defs Variants.nat c (some k)) E (defs c.2 ℓ (args l)) K := by
  intro k
  induction k with
  | zero =>
    intro l o hl h K
    have hlt : last.toNat < 512 := hlast
    rw [hdef, if_neg (by rw [sle_iff hl hlast]; omega), whileSpec_apply, wp_ret]
    iintro ⟨H, Hk⟩
    imodintro
    iapply Hk
    iexact H
  | succ k ih =>
    intro l o hc h K
    rw [hdef, whileSpec_apply]
    by_cases hle : Scalar.cmpi .sle l last = 1#1
    · rw [if_pos hle]
      have hlt : last.toNat < 512 := hlast
      have hle' := (sle_iff hc hlast).mp hle
      have h2 := hc.2
      have h1 := hc.1
      iintro ⟨H, Hk⟩
      iapply (wp_assume Variants.nat c (some (k + 1)) E hc.chk2)
      iapply (wp_update Variants.nat c (some (k + 1)) E (m := m) (w := fun v => k0_pay3 rows ids p x l v) (X := o) rfl hc.chk2.2
        (trip_eq ids p x l o hc.chk2.2).symm) $$ H
      iintro H
      iapply (wp_call_spec Variants.nat c (some (k + 1)) E (whileSpec c m last ids p x k (next l) (trip ids p x l o)) k
        (fun u hu => by cases hu; exact Nat.lt_succ_self k)
        (fun K' => ih (next l) (trip ids p x l o) hc.next (by rw [next_toNat h2]; omega) K'))
      rw [whileSpec_apply]
      isplitl [H]
      · iexact H
      iintro %r H
      rw [wp_ret]
      imodintro
      iapply Hk
      have e : loopOut last ids p x (k + 1) l o = loopOut last ids p x k (next l) (trip ids p x l o) := if_pos hle
      rw [e]
      iexact H
    · rw [if_neg hle, wp_ret]
      iintro ⟨H, Hk⟩
      imodintro
      iapply Hk
      have e : loopOut last ids p x (k + 1) l o = o := if_neg hle
      rw [e]
      iexact H

/-- The call of the loop after a half's first window: from the accumulator with that window accumulated, the program
    continues with the whole half accumulated. -/
theorem wp_while {defs : Defs nD τ sig (Elt F) Λ} (c : Thread nD τ) (E : Set Name)
    {m : Memref sig c.2.kind .vmem S512x256 .f32} {ℓ : Λ.Label} {args : BitVec 32 → Λ.Args ℓ} {ret : BitVec 32 → Λ.Result ℓ}
    {last : BitVec 32} {ids : IVec S1x2000 32} {p : FVec F S1x2000 .f32} {x : FVec F S2000x256 .bf16}
    {d : ∀ l, Decidable (k0_chk2 l)}
    {hl : ∀ l (h : k0_chk2 l), m.view.LoadsAt (Rect.unit (s := S512x256) (k0_off3 l) S32x256.size h.2).toLoadRect}
    {hx : ∀ l (h : k0_chk2 l), (m.access (Rect.unit (s := S512x256) (k0_off3 l) S32x256.size h.2)).Stores Finset.univ}
    {hm : ∀ l (h : k0_chk2 l), (Finset.univ : Finset (Rect.unit (s := S512x256) (k0_off3 l) S32x256.size h.2).shape.Idx) = Finset.univ
      ∨ ∀ a, (Rect.unit (s := S512x256) (k0_off3 l) S32x256.size h.2).stride a = 1}
    (hdef : ∀ l, defs c.2 ℓ (args l) = if Scalar.cmpi .sle l last = 1#1 then
        .op (.assume (k0_chk2 l) (d l)) fun h =>
        .op (.load m (Rect.unit (s := S512x256) (k0_off3 l) S32x256.size h.down.2).toLoadRect (hl l h.down)) fun v =>
        .op (.load m (Rect.unit (s := S512x256) (k0_off3 l) S32x256.size h.down.2).toLoadRect (hl l h.down)) fun _ =>
        .op (.store m (Rect.unit (s := S512x256) (k0_off3 l) S32x256.size h.down.2) (k0_pay3 rows ids p x l v) Finset.univ (hx l h.down) (hm l h.down)) fun _ =>
        .op (.call ℓ (args (next l))) .ret
      else .ret (ret l))
    (hlast : Seg last) {first : BitVec 32} (hfirst : Seg first) {o : FVec F S512x256 .f32} {α : Type}
    {k : Λ.Result ℓ → Prog (TpuEff nD τ sig (Elt F) Λ c.2) α} {R : α → sProp (MT nD τ sig Ix (Elt F) Name U Lvl)} :
    (owns c m fullShare (firstOut first ids p x o) : sProp (MT nD τ sig Ix (Elt F) Name U Lvl))
      ⊢ iprop((∀ r, owns c m fullShare (halfOut first last ids p x o) -∗ wp frame (wpE defs Variants.nat c none) E (k r) R)
        -∗ wp frame (wpE defs Variants.nat c none) E (.op (.call ℓ (args (start first))) k) R) := by
  iintro H Hk
  iapply (wp_call_spec Variants.nat c none E (whileSpec c m last ids p x 15 (start first) (firstOut first ids p x o)) (15 : ℕ)
    (fun u hu => nomatch hu)
    (fun K' => while_spec c E hdef hlast 15 (start first) (firstOut first ids p x o) (start_ctr hfirst)
      (by rw [start_toNat hfirst]; omega) K'))
  rw [whileSpec_apply]
  isplitl [H]
  · iexact H
  iintro %r H
  iapply Hk
  iexact H

/-- A half's first window, read and written back with the half's rows accumulated: the accumulator holds `firstOut`. -/
theorem wp_first {defs : Defs nD τ sig (Elt F) Λ} (c : Thread nD τ) (E : Set Name)
    {m : Memref sig c.2.kind .vmem S512x256 .f32} {first : BitVec 32} (hfirst : Seg first) {ids : IVec S1x2000 32} {p : FVec F S1x2000 .f32}
    {x : FVec F S2000x256 .bf16} {off : Fin 2 → ℕ} {inb : ∀ a, off a + S32x256.size a ≤ S512x256.size a} (hoff : off = k0_off2 first)
    {hl hl' : m.view.LoadsAt (Rect.unit (s := S512x256) off S32x256.size inb).toLoadRect}
    {hx : (m.access (Rect.unit (s := S512x256) off S32x256.size inb)).Stores Finset.univ}
    {hm : (Finset.univ : Finset (Rect.unit (s := S512x256) off S32x256.size inb).shape.Idx) = Finset.univ
      ∨ ∀ a, (Rect.unit (s := S512x256) off S32x256.size inb).stride a = 1}
    {pay : Vec F S32x256 .f32 → FVec F S32x256 .f32} (hpay : ∀ u, pay u = k0_pay41 x p rows ids first u)
    {o : FVec F S512x256 .f32} {α : Type} {k : PUnit → Prog (TpuEff nD τ sig (Elt F) Λ c.2) α} {R : α → sProp (MT nD τ sig Ix (Elt F) Name U Lvl)} :
    (owns c m fullShare o : sProp (MT nD τ sig Ix (Elt F) Name U Lvl))
      ⊢ iprop((owns c m fullShare (firstOut first ids p x o) -∗ wp frame (wpE defs Variants.nat c none) E (k ⟨⟩) R)
        -∗ wp frame (wpE defs Variants.nat c none) E (.op (.load m (Rect.unit (s := S512x256) off S32x256.size inb).toLoadRect hl) fun v =>
            .op (.load m (Rect.unit (s := S512x256) off S32x256.size inb).toLoadRect hl') fun _ =>
            .op (.store m (Rect.unit (s := S512x256) off S32x256.size inb) (pay v) Finset.univ hx hm) k) R) := by
  subst hoff
  have e : VecWindow.put o (k0_off2 first) S32x256.size (pay (VecWindow.window o (k0_off2 first) S32x256.size inb)) = firstOut first ids p x o := by
    rw [hpay, firstOut_eq first ids p x o inb]
  iintro H Hk
  iapply (wp_load_owned Variants.nat c none E rfl inb rfl) $$ H
  iintro H
  iapply (wp_load_owned Variants.nat c none E rfl inb rfl) $$ H
  iintro H
  iapply (wp_store_owned Variants.nat c none E rfl e) $$ H
  iexact Hk

end Cert.Pool

end
-- ==== Proof.KernelIdeal.Parts.lean ====
/-
  The kernel's parts, run: each part of the printed body, at any memrefs, from what the memrefs read to what they read
  after it, stated at the head of a program. The accumulator, the statistics, the rows and the tables are held by what
  they read (Pool/Rules.lean), and what a part leaves is said by the functions of Pool/Steps.lean.
-/
module

public import proofs.«01_k».proof.Proof.Gen.KernelIdeal.Skeleton
public import proofs.«01_k».proof.Proof.Gen.KernelIdeal.Launch
public import proofs.«01_k».proof.Proof.Pool.While

@[expose] public section

set_option maxRecDepth 16384

noncomputable section

namespace Cert.KernelIdeal.Run

open Cert.KernelIdeal Cert.KernelIdeal.Gen Cert.Pool
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Name : Type} [DecidableEq Name] {U : Type} [URA U] {Lvl : Type} [Preorder Lvl]
variable (c : Dev nD) (E : Set Name) {α : Type} {R : α → sProp (MT nD τ sig Unit (Elt F) Name U Lvl)}

/-! ### The five loops are one loop -/

section Loops
variable (i : grid0.Coords) (v94 : BitVec 1) {w0 w1 w2 w3 w4 : BitVec 32} (h0 : k0_chk1 w0) (h1 : k0_chk3 w1) (h2 : k0_chk5 w2) (h3 : k0_chk7 w3)
  (h4 : k0_chk9 w4) {last : BitVec 32} (hlast : Seg last) {x : FVec F S2000x256 .bf16} {p : FVec F S1x2000 .f32} {v : IVec S1x2000 32}
  {arg6 : Memref sig .tc .vmem S512x256 .f32} (harg6 : arg6.IsWhole) {o : FVec F S512x256 .f32} {k : BitVec 32 → Prog (TpuEff nD τ sig (Elt F) (Λ₀ F) .tc) α}

include hlast

/-- The call of the first half's loop, after that half's first window. -/
theorem wp_while1 (hw : Seg w0) :
    (owns (c : Thread nD τ) arg6 fullShare (firstOut w0 v p x o) : sProp (MT nD τ sig Unit (Elt F) Name U Lvl))
      ⊢ iprop((∀ r, owns (c : Thread nD τ) arg6 fullShare (halfOut w0 last v p x o) -∗ wp frame (wpE defs₀ Variants.nat (c : Thread nD τ) none) E (k r) R)
        -∗ wp frame (wpE defs₀ Variants.nat (c : Thread nD τ) none) E
          (.op (.call (1 : (Λ₀ F).Label) ⟨i, v94, w0, h0, last, rows, v, p, x, arg6, harg6, start w0⟩) k) R) :=
  wp_while (ℓ := (1 : (Λ₀ F).Label)) (args := fun l => ⟨i, v94, w0, h0, last, rows, v, p, x, arg6, harg6, l⟩) (ret := fun l => l)
    (c : Thread nD τ) E (fun l => rfl) hlast hw

/-- The call of the second half's loop. -/
theorem wp_while2 (hw : Seg w1) :
    (owns (c : Thread nD τ) arg6 fullShare (firstOut w1 v p x o) : sProp (MT nD τ sig Unit (Elt F) Name U Lvl))
      ⊢ iprop((∀ r, owns (c : Thread nD τ) arg6 fullShare (halfOut w1 last v p x o) -∗ wp frame (wpE defs₀ Variants.nat (c : Thread nD τ) none) E (k r) R)
        -∗ wp frame (wpE defs₀ Variants.nat (c : Thread nD τ) none) E
          (.op (.call (2 : (Λ₀ F).Label) ⟨i, v94, w0, h0, w1, h1, last, rows, v, p, x, arg6, harg6, start w1⟩) k) R) :=
  wp_while (ℓ := (2 : (Λ₀ F).Label)) (args := fun l => ⟨i, v94, w0, h0, w1, h1, last, rows, v, p, x, arg6, harg6, l⟩) (ret := fun l => l)
    (c : Thread nD τ) E (fun l => rfl) hlast hw

/-- The call of the third half's loop. -/
theorem wp_while3 (hw : Seg w2) :
    (owns (c : Thread nD τ) arg6 fullShare (firstOut w2 v p x o) : sProp (MT nD τ sig Unit (Elt F) Name U Lvl))
      ⊢ iprop((∀ r, owns (c : Thread nD τ) arg6 fullShare (halfOut w2 last v p x o) -∗ wp frame (wpE defs₀ Variants.nat (c : Thread nD τ) none) E (k r) R)
        -∗ wp frame (wpE defs₀ Variants.nat (c : Thread nD τ) none) E
          (.op (.call (3 : (Λ₀ F).Label) ⟨i, v94, w0, h0, w1, h1, w2, h2, last, rows, v, p, x, arg6, harg6, start w2⟩) k) R) :=
  wp_while (ℓ := (3 : (Λ₀ F).Label)) (args := fun l => ⟨i, v94, w0, h0, w1, h1, w2, h2, last, rows, v, p, x, arg6, harg6, l⟩) (ret := fun l => l)
    (c : Thread nD τ) E (fun l => rfl) hlast hw

/-- The call of the fourth half's loop. -/
theorem wp_while4 (hw : Seg w3) :
    (owns (c : Thread nD τ) arg6 fullShare (firstOut w3 v p x o) : sProp (MT nD τ sig Unit (Elt F) Name U Lvl))
      ⊢ iprop((∀ r, owns (c : Thread nD τ) arg6 fullShare (halfOut w3 last v p x o) -∗ wp frame (wpE defs₀ Variants.nat (c : Thread nD τ) none) E (k r) R)
        -∗ wp frame (wpE defs₀ Variants.nat (c : Thread nD τ) none) E
          (.op (.call (4 : (Λ₀ F).Label) ⟨i, v94, w0, h0, w1, h1, w2, h2, w3, h3, last, rows, v, p, x, arg6, harg6, start w3⟩) k) R) :=
  wp_while (ℓ := (4 : (Λ₀ F).Label)) (args := fun l => ⟨i, v94, w0, h0, w1, h1, w2, h2, w3, h3, last, rows, v, p, x, arg6, harg6, l⟩) (ret := fun l => l)
    (c : Thread nD τ) E (fun l => rfl) hlast hw

/-- The call of the fifth half's loop. -/
theorem wp_while5 (hw : Seg w4) :
    (owns (c : Thread nD τ) arg6 fullShare (firstOut w4 v p x o) : sProp (MT nD τ sig Unit (Elt F) Name U Lvl))
      ⊢ iprop((∀ r, owns (c : Thread nD τ) arg6 fullShare (halfOut w4 last v p x o) -∗ wp frame (wpE defs₀ Variants.nat (c : Thread nD τ) none) E (k r) R)
        -∗ wp frame (wpE defs₀ Variants.nat (c : Thread nD τ) none) E
          (.op (.call (5 : (Λ₀ F).Label) ⟨i, v94, w0, h0, w1, h1, w2, h2, w3, h3, w4, h4, last, rows, v, p, x, arg6, harg6, start w4⟩) k) R) :=
  wp_while (ℓ := (5 : (Λ₀ F).Label)) (args := fun l => ⟨i, v94, w0, h0, w1, h1, w2, h2, w3, h3, w4, h4, last, rows, v, p, x, arg6, harg6, l⟩) (ret := fun l => l)
    (c : Thread nD τ) E (fun l => rfl) hlast hw

end Loops

/-! ### The parts -/

section Parts
variable (i : grid0.Coords) (arg1 : Memref sig .tc .smem S50 .i32) (harg1 : arg1.IsWhole) (arg2 : Memref sig .tc .smem S50 .i32) (harg2 : arg2.IsWhole)
  (arg3 : Memref sig .tc .vmem S10000x256 .f32) (harg3 : arg3.IsWhole) (arg4 : Memref sig .tc .vmem S1x1x10000 .i32) (harg4 : arg4.IsWhole)
  (arg5 : Memref sig .tc .vmem S256x1 .f32) (harg5 : arg5.IsWhole) (arg6 : Memref sig .tc .vmem S512x256 .f32) (harg6 : arg6.IsWhole)
  (arg7 : Memref sig .tc .smem S2 .f32) (harg7 : arg7.IsWhole)
  {T1 T2 : S50.Idx → BitVec 32} {q1 q2 : PosShare TreeShare} {a : FVec F S256x1 .f32} {X : FVec F S10000x256 .f32} {I : IVec S1x1x10000 32}

local notation "𝕄" => MT nD τ sig Unit (Elt F) Name U Lvl
local notation "WP" => wp frame (wpE (defs₀ (F := F)) Variants.nat (c : Thread nD τ) none) E

/-- The tests of the first and of the last point. -/
theorem test_first : ∀ i : grid0.Coords, Scalar.cmpi .ne (Scalar.extui (Scalar.cmpi .eq (BitVec.ofNat 32 (i 0).val) 0#32) : BitVec 32) 0#32 = 1#1
    ↔ (i 0).val = 0 := by decide +kernel
theorem test_last : ∀ i : grid0.Coords, Scalar.cmpi .ne (Scalar.extui (Scalar.cmpi .eq (BitVec.ofNat 32 (i 0).val) 9#32) : BitVec 32) 0#32 = 1#1
    ↔ (i 0).val = 9 := by decide +kernel

theorem test_ogt : ∀ b : BitVec 1, Scalar.cmpi .ne (Scalar.extui b : BitVec 32) 0#32 = 1#1 ↔ b = 1#1 := by decide +kernel

/-- The first part: at the first point the accumulator and the statistics are set to their starting values, at the others they
    are kept; then the scores of the five halves. -/
theorem wp_part1 {O o : FVec F S512x256 .f32} {G : FVec F S2 .f32} {m s : F .f32}
    (hf : (i 0).val = 0 → o = out0 ∧ m = max0 ∧ s = sum0) (hn : (i 0).val ≠ 0 → O = o ∧ G = st2 m s) {K : _ → sProp 𝕄} :
    iprop(owns (c : Thread nD τ) arg5 fullShare a ∗ owns (c : Thread nD τ) arg3 fullShare X ∗ owns (c : Thread nD τ) arg6 fullShare O
        ∗ owns (c : Thread nD τ) arg7 fullShare G
        ∗ (owns (c : Thread nD τ) arg5 fullShare a -∗ owns (c : Thread nD τ) arg3 fullShare X -∗ owns (c : Thread nD τ) arg6 fullShare o
          -∗ owns (c : Thread nD τ) arg7 fullShare (st2 m s)
          -∗ K ⟨BitVec.ofNat 32 (i 0).val, xb X 0, sc a X 0, xb X 1, sc a X 1, xb X 2, sc a X 2, xb X 3, sc a X 3, xb X 4, sc a X 4, m,
              m01 a X, m2 a X⟩))
      ⊢ WP (k0_part1 i arg1 harg1 arg2 harg2 arg3 harg3 arg4 harg4 arg5 harg5 arg6 harg6 arg7 harg7) K := by
  rw [k0_part1_eq_skeleton]
  unfold k0_part1_skel
  simp only [Prog.lift, Prog.bind_op, Prog.bind_ret, Prog.pure_eq_ret]
  iintro ⟨H5, H3, H6, H7, Hk⟩
  by_cases h : (i 0).val = 0
  case' pos =>
    obtain ⟨rfl, rfl, rfl⟩ := hf h
    rw [dif_pos ((test_first i).mpr h)]
    iapply (wp_load_owned Variants.nat (c : Thread nD τ) none E rfl inb_S512x256_S512x256_0_0 (window_full O inb_S512x256_S512x256_0_0)) $$ H6
    iintro H6
    iapply (wp_store_owned Variants.nat (c : Thread nD τ) none E rfl (put_full O inb_S512x256_S512x256_0_0 out0)) $$ H6
    iintro H6
    iapply (wp_word_owned Variants.nat (c : Thread nD τ) none E rfl inb_S2_S1_0 rfl) $$ H7
    iintro H7
    iapply (wp_store_owned Variants.nat (c : Thread nD τ) none E rfl (put_st2_max G max0)) $$ H7
    iintro H7
    iapply (wp_word_owned Variants.nat (c : Thread nD τ) none E rfl inb_S2_S1_1 rfl) $$ H7
    iintro H7
    iapply (wp_store_owned Variants.nat (c : Thread nD τ) none E rfl (put_st2_sum max0 (snd G) sum0)) $$ H7
    iintro H7
  case' neg =>
    obtain ⟨rfl, rfl⟩ := hn h
    rw [dif_neg (fun h' => h ((test_first i).mp h'))]
  all_goals
    iapply (wp_load_owned Variants.nat (c : Thread nD τ) none E rfl inb_S256x1_S256x1_0_0 (window_full a inb_S256x1_S256x1_0_0)) $$ H5
    iintro H5
    iapply (wp_load_owned Variants.nat (c : Thread nD τ) none E (v := xs X 0) rfl inb_S10000x256_S2000x256_0_0 rfl) $$ H3
    iintro H3
    iapply (wp_load_owned Variants.nat (c : Thread nD τ) none E (v := xs X 1) rfl inb_S10000x256_S2000x256_2000_0 rfl) $$ H3
    iintro H3
    iapply (wp_load_owned Variants.nat (c : Thread nD τ) none E (v := xs X 2) rfl inb_S10000x256_S2000x256_4000_0 rfl) $$ H3
    iintro H3
    iapply (wp_load_owned Variants.nat (c : Thread nD τ) none E (v := xs X 3) rfl inb_S10000x256_S2000x256_6000_0 rfl) $$ H3
    iintro H3
    iapply (wp_load_owned Variants.nat (c : Thread nD τ) none E (v := xs X 4) rfl inb_S10000x256_S2000x256_8000_0 rfl) $$ H3
    iintro H3
    iapply (wp_word_owned Variants.nat (c : Thread nD τ) none E rfl inb_S2_S1_0 (window_st2_max _ _ inb_S2_S1_0 _)) $$ H7
    iintro H7
    rw [wp_ret]
    imodintro
    ispecialize Hk $$ H5 H3 H6 H7
    istop
    exact emp_sep.mp

/-- The second part computes only: the maxima, the rescaling factor, the weights, and what the new sum is made of. -/
theorem wp_part2 {m : F .f32} {K : _ → sProp 𝕄} :
    K ⟨blkMax a X, newMax a X m, alpha a X m, prob a X m 0, prob a X m 1, prob a X m 2, prob a X m 3, prob a X m 4,
        k0_pay30 (sc a X 0) (sc a X 1) (sc a X 2) (sc a X 3) (sc a X 4) m (m01 a X) (m2 a X),
        k0_pay31 (sc a X 3) (sc a X 4) m (m01 a X) (m2 a X)⟩
      ⊢ WP (k0_part2 i arg1 harg1 arg2 harg2 arg3 harg3 arg4 harg4 arg5 harg5 arg6 harg6 arg7 harg7
          (sc a X 0) (sc a X 1) (sc a X 2) (sc a X 3) (sc a X 4) m (m01 a X) (m2 a X)) K := by
  rw [k0_part2_eq_skeleton]
  unfold k0_part2_skel
  rw [Prog.pure_eq_ret, wp_ret]
  exact BI.fupd_intro

/-- The words of the two tables that a half of the point reads are segments. -/
def SegWords (T : S50.Idx → BitVec 32) : Prop := ∀ n, Seg (word T n)

theorem SegWords.at {T : S50.Idx → BitVec 32} (h : SegWords T) (t : ℕ) (j : Fin 5) : Seg (words T t j) := h _

/-- The third part: the statistics become the new ones, the accumulator is rescaled where the maximum grew; then the first half's
    segments, and its first and last segment from the tables. -/
theorem wp_part3 (hT1 : SegWords T1) {o : FVec F S512x256 .f32} {m s : F .f32} {K : _ → sProp 𝕄} :
    iprop(owns (c : Thread nD τ) arg1 q1 T1 ∗ owns (c : Thread nD τ) arg2 q2 T2 ∗ owns (c : Thread nD τ) arg4 fullShare I
        ∗ owns (c : Thread nD τ) arg6 fullShare o ∗ owns (c : Thread nD τ) arg7 fullShare (st2 m s)
        ∗ (owns (c : Thread nD τ) arg1 q1 T1 -∗ owns (c : Thread nD τ) arg2 q2 T2 -∗ owns (c : Thread nD τ) arg4 fullShare I
          -∗ owns (c : Thread nD τ) arg6 fullShare (rescaled a X m o) -∗ owns (c : Thread nD τ) arg7 fullShare (st2 (newMax a X m) (newSum a X m s))
          -∗ ∀ (v108 : BitVec 32) (v122 : BitVec 1) (v123 : BitVec 32)
              (hpay : ∀ (x : FVec F S2000x256 .bf16) (p : FVec F S1x2000 .f32) (v : IVec S1x2000 32) (u : Vec F S32x256 .f32),
                k0_pay35 x p rows v v108 v122 v123 u = k0_pay41 x p rows v (words T1 (i 0).val 0) u)
              (hctr : Scalar.addi (Scalar.minsi (Scalar.muli (Scalar.select v122 v123 v108) 8#32) 480#32) 32#32 = start (words T1 (i 0).val 0)),
            K ⟨Scalar.cmpf .ogt (blkMax a X) m, rows, ids I 0, words T1 (i 0).val 0, chk1_of_seg (hT1 _), words T2 (i 0).val 0, v108, v122, v123⟩))
      ⊢ WP (k0_part3 i arg1 harg1 arg2 harg2 arg3 harg3 arg4 harg4 arg5 harg5 arg6 harg6 arg7 harg7
          (BitVec.ofNat 32 (i 0).val) m (blkMax a X) (newMax a X m) (alpha a X m)
          (k0_pay30 (sc a X 0) (sc a X 1) (sc a X 2) (sc a X 3) (sc a X 4) m (m01 a X) (m2 a X))
          (k0_pay31 (sc a X 3) (sc a X 4) m (m01 a X) (m2 a X))) K := by
  rw [k0_part3_eq_skeleton]
  unfold k0_part3_skel
  simp only [Prog.lift, Prog.bind_op, Prog.bind_ret, Prog.pure_eq_ret]
  iintro ⟨H1, H2, H4, H6, H7, Hk⟩
  iapply (wp_word_owned Variants.nat (c : Thread nD τ) none E rfl inb_S2_S1_0 rfl) $$ H7
  iintro H7
  iapply (wp_store_owned Variants.nat (c : Thread nD τ) none E rfl (put_st2_max' m s (newMax a X m))) $$ H7
  iintro H7
  iapply (wp_word_owned Variants.nat (c : Thread nD τ) none E rfl inb_S2_S1_1 (window_st2_sum _ s inb_S2_S1_1 _)) $$ H7
  iintro H7
  iapply (wp_word_owned Variants.nat (c : Thread nD τ) none E rfl inb_S2_S1_1 rfl) $$ H7
  iintro H7
  iapply (wp_store_owned Variants.nat (c : Thread nD τ) none E rfl (put_st2_sum (newMax a X m) s (newSum a X m s))) $$ H7
  iintro H7
  have hb : (i 0).val < 10 := (i 0).isLt
  by_cases h : Scalar.cmpf .ogt (blkMax a X) m = 1#1
  case' pos =>
    rw [if_pos ((test_ogt _).mpr h)]
    iapply (wp_update_full Variants.nat (c : Thread nD τ) none E (m := arg6) (w := fun u => k0_pay33 (alpha a X m) u)) $$ H6
    iintro H6
    ihave H6 := (Entails.of_eq (congrArg (owns (c : Thread nD τ) arg6 fullShare) (show k0_pay33 (alpha a X m) o = rescaled a X m o from (if_pos h).symm))) $$ H6
  case' neg =>
    rw [if_neg (fun h' => h ((test_ogt _).mp h'))]
    ihave H6 := (Entails.of_eq (congrArg (owns (c : Thread nD τ) arg6 fullShare) (show o = rescaled a X m o from (if_neg h).symm))) $$ H6
  all_goals
    iapply (wp_load_owned Variants.nat (c : Thread nD τ) none E (v := is I 0) rfl inb_S1x1x10000_S1x1x2000_0_0_0 rfl) $$ H4
    iintro H4
    iapply (wp_word_owned Variants.nat (c : Thread nD τ) none E (w := words T1 (i 0).val 0) (k0_off1_eq i)
      (by rw [← k0_off1_eq i]; exact k0_off1_inb i) (window_word T1 rfl _ _)) $$ H1
    iintro H1
    iapply (wp_assume Variants.nat (c : Thread nD τ) none E (chk1_of_seg (hT1 _)))
    iapply (wp_word_owned Variants.nat (c : Thread nD τ) none E (w := words T2 (i 0).val 0) (k0_off1_eq i)
      (by rw [← k0_off1_eq i]; exact k0_off1_inb i) (window_word T2 rfl _ _)) $$ H2
    iintro H2
    rw [wp_ret]
    imodintro
    ispecialize Hk $$ H1 H2 H4 H6 H7
    ispecialize Hk $$ %_ %_ %_ %(fun x p v u => rfl) %rfl
    istop
    exact emp_sep.mp

/-- The fourth part: the first half, then the second half's segments and its words. -/
theorem wp_part4 (hT1 : SegWords T1) (hT2 : SegWords T2) {o : FVec F S512x256 .f32} {x : FVec F S2000x256 .bf16} {p : FVec F S1x2000 .f32} {v : IVec S1x2000 32}
    {v94 : BitVec 1} {h0 : k0_chk1 (words T1 (i 0).val 0)} {v108 : BitVec 32} {v122 : BitVec 1} {v123 : BitVec 32}
    (hpay : ∀ (x : FVec F S2000x256 .bf16) (p : FVec F S1x2000 .f32) (v : IVec S1x2000 32) (u : Vec F S32x256 .f32),
      k0_pay35 x p rows v v108 v122 v123 u = k0_pay41 x p rows v (words T1 (i 0).val 0) u)
    (hctr : Scalar.addi (Scalar.minsi (Scalar.muli (Scalar.select v122 v123 v108) 8#32) 480#32) 32#32 = start (words T1 (i 0).val 0))
    {K : _ → sProp 𝕄} :
    iprop(owns (c : Thread nD τ) arg1 q1 T1 ∗ owns (c : Thread nD τ) arg2 q2 T2 ∗ owns (c : Thread nD τ) arg4 fullShare I
        ∗ owns (c : Thread nD τ) arg6 fullShare o
        ∗ (owns (c : Thread nD τ) arg1 q1 T1 -∗ owns (c : Thread nD τ) arg2 q2 T2 -∗ owns (c : Thread nD τ) arg4 fullShare I
          -∗ owns (c : Thread nD τ) arg6 fullShare (halfOut (words T1 (i 0).val 0) (words T2 (i 0).val 0) v p x o)
          -∗ K ⟨ids I 1, words T1 (i 0).val 1, chk1_of_seg (hT1 _), words T2 (i 0).val 1, 8#32, Scalar.divsi (words T1 (i 0).val 1) 8#32,
              Scalar.subi (Scalar.extui (Scalar.cmpi .sgt (words T1 (i 0).val 1) 0#32)) (Scalar.extui (Scalar.cmpi .slt (words T1 (i 0).val 1) 0#32)),
              Scalar.extui (Scalar.cmpi .sgt (8#32 : BitVec 32) 0#32)⟩))
      ⊢ WP (k0_part4 i arg1 harg1 arg2 harg2 arg3 harg3 arg4 harg4 arg5 harg5 arg6 harg6 arg7 harg7
          (BitVec.ofNat 32 (i 0).val) x p v94 rows v (words T1 (i 0).val 0) h0 (words T2 (i 0).val 0) v108 v122 v123) K := by
  rw [k0_part4_eq_skeleton]
  unfold k0_part4_skel
  simp only [Prog.lift, Prog.bind_op, Prog.bind_ret, Prog.pure_eq_ret]
  iintro ⟨H1, H2, H4, H6, Hk⟩
  iapply (wp_first (c : Thread nD τ) E (hT1.at _ 0) rfl (hpay x p v)) $$ H6
  iintro H6
  rw [hctr]
  iapply (wp_while1 c E i v94 h0 (hT2.at _ 0) harg6 (hT1.at _ 0)) $$ H6
  iintro %r H6
  iapply (wp_load_owned Variants.nat (c : Thread nD τ) none E (v := is I 1) rfl inb_S1x1x10000_S1x1x2000_0_0_2000 rfl) $$ H4
  iintro H4
  iapply (wp_word_owned Variants.nat (c : Thread nD τ) none E (w := words T1 (i 0).val 1) (k0_off4_eq i)
    (by rw [← k0_off4_eq i]; exact k0_off4_inb i) (window_word T1 rfl _ _)) $$ H1
  iintro H1
  iapply (wp_assume Variants.nat (c : Thread nD τ) none E (chk1_of_seg (hT1 _)))
  iapply (wp_word_owned Variants.nat (c : Thread nD τ) none E (w := words T2 (i 0).val 1) (k0_off4_eq i)
    (by rw [← k0_off4_eq i]; exact k0_off4_inb i) (window_word T2 rfl _ _)) $$ H2
  iintro H2
  rw [wp_ret]
  imodintro
  ispecialize Hk $$ H1 H2 H4 H6
  istop
  exact emp_sep.mp

/-- The fifth part: the second half, then the third half's segments and its words. -/
theorem wp_part5 (hT1 : SegWords T1) (hT2 : SegWords T2) {o : FVec F S512x256 .f32} {x : FVec F S2000x256 .bf16} {p : FVec F S1x2000 .f32} {v : IVec S1x2000 32}
    {v94 : BitVec 1} {h0 : k0_chk1 (words T1 (i 0).val 0)} {h1 : k0_chk3 (words T1 (i 0).val 1)} {K : _ → sProp 𝕄} :
    iprop(owns (c : Thread nD τ) arg1 q1 T1 ∗ owns (c : Thread nD τ) arg2 q2 T2 ∗ owns (c : Thread nD τ) arg4 fullShare I
        ∗ owns (c : Thread nD τ) arg6 fullShare o
        ∗ (owns (c : Thread nD τ) arg1 q1 T1 -∗ owns (c : Thread nD τ) arg2 q2 T2 -∗ owns (c : Thread nD τ) arg4 fullShare I
          -∗ owns (c : Thread nD τ) arg6 fullShare (halfOut (words T1 (i 0).val 1) (words T2 (i 0).val 1) v p x o)
          -∗ K ⟨ids I 2, words T1 (i 0).val 2, chk1_of_seg (hT1 _), words T2 (i 0).val 2, 8#32⟩))
      ⊢ WP (k0_part5 i arg1 harg1 arg2 harg2 arg3 harg3 arg4 harg4 arg5 harg5 arg6 harg6 arg7 harg7
          (BitVec.ofNat 32 (i 0).val) x p v94 rows (words T1 (i 0).val 0) h0 v (words T1 (i 0).val 1) h1 (words T2 (i 0).val 1) 8#32
          (Scalar.divsi (words T1 (i 0).val 1) 8#32)
          (Scalar.subi (Scalar.extui (Scalar.cmpi .sgt (words T1 (i 0).val 1) 0#32)) (Scalar.extui (Scalar.cmpi .slt (words T1 (i 0).val 1) 0#32)))
          (Scalar.extui (Scalar.cmpi .sgt (8#32 : BitVec 32) 0#32))) K := by
  rw [k0_part5_eq_skeleton]
  unfold k0_part5_skel
  simp only [Prog.lift, Prog.bind_op, Prog.bind_ret, Prog.pure_eq_ret]
  iintro ⟨H1, H2, H4, H6, Hk⟩
  iapply (wp_first (c : Thread nD τ) E (hT1.at _ 1) (ids := v) (p := p) (x := x) rfl (fun u => rfl)) $$ H6
  iintro H6
  iapply (wp_while2 c E i v94 h0 h1 (hT2.at _ 1) harg6 (hT1.at _ 1)) $$ H6
  iintro %r H6
  iapply (wp_load_owned Variants.nat (c : Thread nD τ) none E (v := is I 2) rfl inb_S1x1x10000_S1x1x2000_0_0_4000 rfl) $$ H4
  iintro H4
  iapply (wp_word_owned Variants.nat (c : Thread nD τ) none E (w := words T1 (i 0).val 2) (k0_off7_eq i)
    (by rw [← k0_off7_eq i]; exact k0_off7_inb i) (window_word T1 rfl _ _)) $$ H1
  iintro H1
  iapply (wp_assume Variants.nat (c : Thread nD τ) none E (chk1_of_seg (hT1 _)))
  iapply (wp_word_owned Variants.nat (c : Thread nD τ) none E (w := words T2 (i 0).val 2) (k0_off7_eq i)
    (by rw [← k0_off7_eq i]; exact k0_off7_inb i) (window_word T2 rfl _ _)) $$ H2
  iintro H2
  rw [wp_ret]
  imodintro
  ispecialize Hk $$ H1 H2 H4 H6
  istop
  exact emp_sep.mp

/-- The sixth part: the third half, then the fourth half's segments. -/
theorem wp_part6 (hT1 : SegWords T1) (hT2 : SegWords T2) {o : FVec F S512x256 .f32} {x : FVec F S2000x256 .bf16} {p : FVec F S1x2000 .f32} {v : IVec S1x2000 32}
    {v94 : BitVec 1} {h0 : k0_chk1 (words T1 (i 0).val 0)} {h1 : k0_chk3 (words T1 (i 0).val 1)} {h2 : k0_chk5 (words T1 (i 0).val 2)} {K : _ → sProp 𝕄} :
    iprop(owns (c : Thread nD τ) arg4 fullShare I ∗ owns (c : Thread nD τ) arg6 fullShare o
        ∗ (owns (c : Thread nD τ) arg4 fullShare I
          -∗ owns (c : Thread nD τ) arg6 fullShare (halfOut (words T1 (i 0).val 2) (words T2 (i 0).val 2) v p x o)
          -∗ K ⟨ids I 3, Scalar.muli 5#32 (BitVec.ofNat 32 (i 0).val), 3#32⟩))
      ⊢ WP (k0_part6 i arg1 harg1 arg2 harg2 arg3 harg3 arg4 harg4 arg5 harg5 arg6 harg6 arg7 harg7
          (BitVec.ofNat 32 (i 0).val) x p v94 rows (words T1 (i 0).val 0) h0 (words T1 (i 0).val 1) h1 v (words T1 (i 0).val 2) h2
          (words T2 (i 0).val 2) 8#32) K := by
  rw [k0_part6_eq_skeleton]
  unfold k0_part6_skel
  simp only [Prog.lift, Prog.bind_op, Prog.bind_ret, Prog.pure_eq_ret]
  iintro ⟨H4, H6, Hk⟩
  iapply (wp_first (c : Thread nD τ) E (hT1.at _ 2) (ids := v) (p := p) (x := x) rfl (fun u => rfl)) $$ H6
  iintro H6
  iapply (wp_while3 c E i v94 h0 h1 h2 (hT2.at _ 2) harg6 (hT1.at _ 2)) $$ H6
  iintro %r H6
  iapply (wp_load_owned Variants.nat (c : Thread nD τ) none E (v := is I 3) rfl inb_S1x1x10000_S1x1x2000_0_0_6000 rfl) $$ H4
  iintro H4
  rw [wp_ret]
  imodintro
  ispecialize Hk $$ H4 H6
  istop
  exact emp_sep.mp

/-- The seventh part: the fourth half's words and its first window. -/
theorem wp_part7 (hT1 : SegWords T1) {o : FVec F S512x256 .f32} {x : FVec F S2000x256 .bf16} {p : FVec F S1x2000 .f32} {v : IVec S1x2000 32}
    {b3 c3 : BitVec 32} {K : _ → sProp 𝕄} :
    iprop(owns (c : Thread nD τ) arg1 q1 T1 ∗ owns (c : Thread nD τ) arg2 q2 T2 ∗ owns (c : Thread nD τ) arg6 fullShare o
        ∗ (owns (c : Thread nD τ) arg1 q1 T1 -∗ owns (c : Thread nD τ) arg2 q2 T2
          -∗ owns (c : Thread nD τ) arg6 fullShare (firstOut (words T1 (i 0).val 3) v p x o)
          -∗ K ⟨words T1 (i 0).val 3, chk1_of_seg (hT1 _), words T2 (i 0).val 3, k0_mult1 (words T1 (i 0).val 3)⟩))
      ⊢ WP (k0_part7 i arg1 harg1 arg2 harg2 arg3 harg3 arg4 harg4 arg5 harg5 arg6 harg6 arg7 harg7
          (BitVec.ofNat 32 (i 0).val) x p rows v b3 c3) K := by
  rw [k0_part7_eq_skeleton]
  unfold k0_part7_skel
  simp only [Prog.lift, Prog.bind_op, Prog.bind_ret, Prog.pure_eq_ret]
  iintro ⟨H1, H2, H6, Hk⟩
  iapply (wp_word_owned Variants.nat (c : Thread nD τ) none E (w := words T1 (i 0).val 3) (k0_off10_eq i)
    (by rw [← k0_off10_eq i]; exact k0_off10_inb i) (window_word T1 rfl _ _)) $$ H1
  iintro H1
  iapply (wp_assume Variants.nat (c : Thread nD τ) none E (chk1_of_seg (hT1 _)))
  iapply (wp_word_owned Variants.nat (c : Thread nD τ) none E (w := words T2 (i 0).val 3) (k0_off10_eq i)
    (by rw [← k0_off10_eq i]; exact k0_off10_inb i) (window_word T2 rfl _ _)) $$ H2
  iintro H2
  iapply (wp_first (c : Thread nD τ) E (hT1.at _ 3) (ids := v) (p := p) (x := x) rfl (fun u => rfl)) $$ H6
  iintro H6
  rw [wp_ret]
  imodintro
  ispecialize Hk $$ H1 H2 H6
  istop
  exact emp_sep.mp

/-- The eighth part: the fourth half's loop, then the fifth half's segments, its words and its one-hot weights. -/
theorem wp_part8 (hT1 : SegWords T1) (hT2 : SegWords T2) {o : FVec F S512x256 .f32} {x : FVec F S2000x256 .bf16} {p p' : FVec F S1x2000 .f32} {v : IVec S1x2000 32}
    {v94 : BitVec 1} {h0 : k0_chk1 (words T1 (i 0).val 0)} {h1 : k0_chk3 (words T1 (i 0).val 1)} {h2 : k0_chk5 (words T1 (i 0).val 2)}
    {h3 : k0_chk7 (words T1 (i 0).val 3)} {K : _ → sProp 𝕄} :
    iprop(owns (c : Thread nD τ) arg1 q1 T1 ∗ owns (c : Thread nD τ) arg2 q2 T2 ∗ owns (c : Thread nD τ) arg4 fullShare I
        ∗ owns (c : Thread nD τ) arg6 fullShare (firstOut (words T1 (i 0).val 3) v p x o)
        ∗ (owns (c : Thread nD τ) arg1 q1 T1 -∗ owns (c : Thread nD τ) arg2 q2 T2 -∗ owns (c : Thread nD τ) arg4 fullShare I
          -∗ owns (c : Thread nD τ) arg6 fullShare (halfOut (words T1 (i 0).val 3) (words T2 (i 0).val 3) v p x o)
          -∗ K ⟨ids I 4, words T1 (i 0).val 4, chk1_of_seg (hT1 _), words T2 (i 0).val 4, k0_mult1 (words T1 (i 0).val 4),
              k0_pay43 p' rows (is I 4) (words T1 (i 0).val 4)⟩))
      ⊢ WP (k0_part8 i arg1 harg1 arg2 harg2 arg3 harg3 arg4 harg4 arg5 harg5 arg6 harg6 arg7 harg7
          (BitVec.ofNat 32 (i 0).val) x p p' v94 rows (words T1 (i 0).val 0) h0 (words T1 (i 0).val 1) h1 (words T1 (i 0).val 2) h2 v
          (words T1 (i 0).val 3) h3 (words T2 (i 0).val 3) (k0_mult1 (words T1 (i 0).val 3))) K := by
  rw [k0_part8_eq_skeleton]
  unfold k0_part8_skel
  simp only [Prog.lift, Prog.bind_op, Prog.bind_ret, Prog.pure_eq_ret]
  iintro ⟨H1, H2, H4, H6, Hk⟩
  iapply (wp_while4 c E i v94 h0 h1 h2 h3 (hT2.at _ 3) harg6 (hT1.at _ 3)) $$ H6
  iintro %r H6
  iapply (wp_load_owned Variants.nat (c : Thread nD τ) none E (v := is I 4) rfl inb_S1x1x10000_S1x1x2000_0_0_8000 rfl) $$ H4
  iintro H4
  iapply (wp_word_owned Variants.nat (c : Thread nD τ) none E (w := words T1 (i 0).val 4) (k0_off13_eq i)
    (by rw [← k0_off13_eq i]; exact k0_off13_inb i) (window_word T1 rfl _ _)) $$ H1
  iintro H1
  iapply (wp_assume Variants.nat (c : Thread nD τ) none E (chk1_of_seg (hT1 _)))
  iapply (wp_word_owned Variants.nat (c : Thread nD τ) none E (w := words T2 (i 0).val 4) (k0_off13_eq i)
    (by rw [← k0_off13_eq i]; exact k0_off13_inb i) (window_word T2 rfl _ _)) $$ H2
  iintro H2
  rw [wp_ret]
  imodintro
  ispecialize Hk $$ H1 H2 H4 H6
  istop
  exact emp_sep.mp

/-- The whole body at a grid point: the accumulator and the statistics `o`, `m`, `s` of the points before (at the first point whatever
    they hold) become the next ones; at the last point the accumulator is divided by the sum. -/
theorem wp_kernel (hT1 : SegWords T1) (hT2 : SegWords T2) {O o : FVec F S512x256 .f32} {G : FVec F S2 .f32} {m s : F .f32}
    (hf : (i 0).val = 0 → o = out0 ∧ m = max0 ∧ s = sum0) (hn : (i 0).val ≠ 0 → O = o ∧ G = st2 m s) {K : PUnit → sProp 𝕄} :
    iprop(owns (c : Thread nD τ) arg1 q1 T1 ∗ owns (c : Thread nD τ) arg2 q2 T2 ∗ owns (c : Thread nD τ) arg3 fullShare X
        ∗ owns (c : Thread nD τ) arg4 fullShare I ∗ owns (c : Thread nD τ) arg5 fullShare a ∗ owns (c : Thread nD τ) arg6 fullShare O
        ∗ owns (c : Thread nD τ) arg7 fullShare G
        ∗ (owns (c : Thread nD τ) arg1 q1 T1 -∗ owns (c : Thread nD τ) arg2 q2 T2 -∗ owns (c : Thread nD τ) arg3 fullShare X
          -∗ owns (c : Thread nD τ) arg4 fullShare I -∗ owns (c : Thread nD τ) arg5 fullShare a
          -∗ owns (c : Thread nD τ) arg6 fullShare
              (if (i 0).val = 9 then finish (accum (words T1 (i 0).val) (words T2 (i 0).val) a X I m o) (newSum a X m s)
                else accum (words T1 (i 0).val) (words T2 (i 0).val) a X I m o)
          -∗ owns (c : Thread nD τ) arg7 fullShare (st2 (newMax a X m) (newSum a X m s)) -∗ K ⟨⟩))
      ⊢ WP (cc0__attn_pool_kernel i arg1 harg1 arg2 harg2 arg3 harg3 arg4 harg4 arg5 harg5 arg6 harg6 arg7 harg7) K := by
  rw [cc0__attn_pool_kernel_eq_skeleton]
  unfold cc0__attn_pool_kernel_skel
  iintro ⟨H1, H2, H3, H4, H5, H6, H7, Hk⟩
  rw [wp_bind]
  iapply (wp_part1 c E i arg1 harg1 arg2 harg2 arg3 harg3 arg4 harg4 arg5 harg5 arg6 harg6 arg7 harg7 hf hn)
  isplitl [H5]; iexact H5
  isplitl [H3]; iexact H3
  isplitl [H6]; iexact H6
  isplitl [H7]; iexact H7
  iintro H5 H3 H6 H7
  rw [wp_bind]
  iapply (wp_part2 c E i arg1 harg1 arg2 harg2 arg3 harg3 arg4 harg4 arg5 harg5 arg6 harg6 arg7 harg7)
  rw [wp_bind]
  iapply (wp_part3 c E i arg1 harg1 arg2 harg2 arg3 harg3 arg4 harg4 arg5 harg5 arg6 harg6 arg7 harg7 (T2 := T2) hT1)
  isplitl [H1]; iexact H1
  isplitl [H2]; iexact H2
  isplitl [H4]; iexact H4
  isplitl [H6]; iexact H6
  isplitl [H7]; iexact H7
  iintro H1 H2 H4 H6 H7 %v108 %v122 %v123 %hpay %hctr
  rw [wp_bind]
  iapply (wp_part4 c E i arg1 harg1 arg2 harg2 arg3 harg3 arg4 harg4 arg5 harg5 arg6 harg6 arg7 harg7 hT1 hT2 hpay hctr)
  isplitl [H1]; iexact H1
  isplitl [H2]; iexact H2
  isplitl [H4]; iexact H4
  isplitl [H6]; iexact H6
  iintro H1 H2 H4 H6
  rw [wp_bind]
  iapply (wp_part5 c E i arg1 harg1 arg2 harg2 arg3 harg3 arg4 harg4 arg5 harg5 arg6 harg6 arg7 harg7 hT1 hT2)
  isplitl [H1]; iexact H1
  isplitl [H2]; iexact H2
  isplitl [H4]; iexact H4
  isplitl [H6]; iexact H6
  iintro H1 H2 H4 H6
  rw [wp_bind]
  iapply (wp_part6 c E i arg1 harg1 arg2 harg2 arg3 harg3 arg4 harg4 arg5 harg5 arg6 harg6 arg7 harg7 hT1 hT2)
  isplitl [H4]; iexact H4
  isplitl [H6]; iexact H6
  iintro H4 H6
  rw [wp_bind]
  iapply (wp_part7 c E i arg1 harg1 arg2 harg2 arg3 harg3 arg4 harg4 arg5 harg5 arg6 harg6 arg7 harg7 (T2 := T2) hT1)
  isplitl [H1]; iexact H1
  isplitl [H2]; iexact H2
  isplitl [H6]; iexact H6
  iintro H1 H2 H6
  rw [wp_bind]
  iapply (wp_part8 c E i arg1 harg1 arg2 harg2 arg3 harg3 arg4 harg4 arg5 harg5 arg6 harg6 arg7 harg7 hT1 hT2)
  isplitl [H1]; iexact H1
  isplitl [H2]; iexact H2
  isplitl [H4]; iexact H4
  isplitl [H6]; iexact H6
  iintro H1 H2 H4 H6
  simp only [Prog.lift, Prog.bind_op, Prog.bind_ret, Prog.pure_eq_ret]
  iapply (wp_first (c : Thread nD τ) E (hT1.at _ 4) (ids := ids I 4) (p := prob a X m 4) (x := xb X 4) rfl (fun u => rfl)) $$ H6
  iintro H6
  iapply (wp_while5 c E i _ _ _ _ _ _ (hT2.at _ 4) harg6 (hT1.at _ 4)) $$ H6
  iintro %r H6
  ihave H6 := (Entails.of_eq (congrArg (owns (c : Thread nD τ) arg6 fullShare)
    (show _ = accum (words T1 (i 0).val) (words T2 (i 0).val) a X I m o from rfl))) $$ H6
  by_cases h : (i 0).val = 9
  case' pos =>
    rw [dif_pos ((test_last i).mpr h)]
    iapply (wp_load_owned Variants.nat (c : Thread nD τ) none E rfl inb_S512x256_S512x256_0_0 (window_full _ inb_S512x256_S512x256_0_0)) $$ H6
    iintro H6
    iapply (wp_word_owned Variants.nat (c : Thread nD τ) none E rfl inb_S2_S1_1 (window_st2_sum _ _ inb_S2_S1_1 _)) $$ H7
    iintro H7
    iapply (wp_load_owned Variants.nat (c : Thread nD τ) none E rfl inb_S512x256_S512x256_0_0 (window_full _ inb_S512x256_S512x256_0_0)) $$ H6
    iintro H6
    iapply (wp_store_owned Variants.nat (c : Thread nD τ) none E rfl (put_full _ inb_S512x256_S512x256_0_0 _)) $$ H6
    iintro H6
  case' neg =>
    rw [dif_neg (fun h' => h ((test_last i).mp h'))]
  all_goals
    rw [wp_ret]
    imodintro
  · rw [if_neg h]
    ispecialize Hk $$ H1 H2 H3 H4 H5
    iapply Hk $$ H6 H7
  · rw [if_pos h]
    ispecialize Hk $$ H1 H2 H3 H4 H5
    ihave H6 := (Entails.of_eq (congrArg (owns (c : Thread nD τ) arg6 fullShare)
      (show _ = finish (accum (words T1 (i 0).val) (words T2 (i 0).val) a X I m o) (newSum a X m s) from rfl))) $$ H6
    iapply Hk $$ H6 H7

end Parts

end Cert.KernelIdeal.Run

end
-- ==== Proof.KernelIdeal.Run.lean ====
/-
  The run of the whole program, for any float operations: the arrays when the pipeline is entered, what its buffers hold
  point by point, the body at a point (Parts.lean `wp_kernel`) and the launch. It ends with the arguments unchanged and the
  result at the last point's accumulator divided by the last point's sum, every semaphore at zero.
-/
module

public import proofs.«01_k».proof.Proof.KernelIdeal.Parts
public import Idealize.ShloMosaic.Lib.Pipeline.Frame
public import Idealize.ShloMosaic.Lib.Pipeline.FrameBody
public import Idealize.ShloMosaic.Lib.Pipeline.ValueKit
public import Idealize.ShloMosaic.Lib.Claim

@[expose] public section

set_option maxRecDepth 16384

noncomputable section

namespace Cert.KernelIdeal.Run

open Cert.KernelIdeal Cert.KernelIdeal.Gen Cert.Pool
open Idealize.ShloMosaic
open Idealize.ShloMosaic.TcCoe
open Idealize.ShloMosaic.Pipeline (Dat Window BodyObligation)

open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (g : Dev nD → PrngReg)

/-! ### What the pipeline is entered with -/

/-- A buffer's contents when the pipeline is entered: after the two tables and the reshaped segments are made. -/
def V (c : Dev nD) (b : Ref sig .tc) : Buf (Elt F) ((c : Thread nD τ).loc b) :=
  StableHlo.after hostOps0 (fun b => m (c, b)) b

/-- The tables the pipeline is entered with. -/
def adm (p : Fin 1) : ((pcfgs (F := F)) p).Adm :=
  match p with
  | 0 => ⟨fun k => V m ⟨0, by decide⟩ (pre0.ref k), trivial⟩

/-- Each half's first and last segment. -/
def T1 (c : Dev nD) : S50.Idx → BitVec 32 := V m c main_v0
def T2 (c : Dev nD) : S50.Idx → BitVec 32 := V m c main_v1

/-- The rows, the segments and the vector as a point's buffers hold them. -/
def Xb (c : Dev nD) (t : Fin grid0.N) : FVec F S10000x256 .f32 :=
  ((win0 (adm m 0) 0).blk t).view.read (Elt F) (V m c main_arg0)
def Ib (c : Dev nD) (t : Fin grid0.N) : IVec S1x1x10000 32 :=
  ((win0 (adm m 0) 1).blk t).view.read (Elt F) (V m c main_v2)
def ab (c : Dev nD) (t : Fin grid0.N) : FVec F S256x1 .f32 :=
  ((win0 (adm m 0) 2).blk t).view.read (Elt F) (V m c main_arg2)

/-- A point by its number. -/
def pt (n : ℕ) : Fin grid0.N := ⟨n % 10, by rw [N_0]; exact Nat.mod_lt n (by decide)⟩

theorem pt_val (t : Fin grid0.N) : pt t.val = t :=
  Fin.ext (Nat.mod_eq_of_lt (lt_of_lt_of_eq t.isLt N_0))

/-- The state after `n` points. -/
def st (c : Dev nD) (n : ℕ) : FVec F S512x256 .f32 × F .f32 × F .f32 :=
  state (T1 m c) (T2 m c) (ab m c (pt 0)) (fun n => Xb m c (pt n)) (fun n => Ib m c (pt n)) n

/-- What the result's buffer holds after point `n`. -/
def outAt (c : Dev nD) (n : ℕ) : FVec F S512x256 .f32 :=
  outAfter (T1 m c) (T2 m c) (ab m c (pt 0)) (fun n => Xb m c (pt n)) (fun n => Ib m c (pt n)) n

/-- What is held between points: the statistics (before the first point, whatever they hold), the generator register, and
    the half of the tables the body reads. -/
def inv (c : Dev nD) (n : ℕ) : sProp 𝕄 :=
  iprop((∃ G : FVec F S2 .f32, ⌜n ≠ 0 → G = st2 (st m c n).2.1 (st m c n).2.2⌝ ∗ owns (c : Thread nD τ) (Memref.whole cc0_scratch0) fullShare G)
    ∗ (∃ r, prngReg c r) ∗ owns (c : Thread nD τ) (Memref.whole main_v0) fullShare.right (T1 m c)
    ∗ owns (c : Thread nD τ) (Memref.whole main_v1) fullShare.right (T2 m c))

/-- The pipeline's data: the arrays as entered, the three inputs' buffers left as fetched, the result's at `outAt`. -/
def dat0 (c : Dev nD) : Dat τ (Elt F) Unit ℕ (UR sig nD τ) ℕ (cfg0 (adm m 0)) c where
  A := fun w => V m c (Pipeline.arrRef spec0 w)
  after := fun w => match w with
    | ⟨0, _⟩ => fun t => Xb m c t
    | ⟨1, _⟩ => fun t => Ib m c t
    | ⟨2, _⟩ => fun t => ab m c t
    | ⟨3, _⟩ => fun t => outAt m c t.val
    | ⟨_ + 4, h⟩ => absurd h (Nat.not_lt.2 (Nat.le_add_left _ _))
  Φ := fun t => inv m c t.val
  q := fun _ => fullShare
  owed := fun _ => 0

def dats (p : Fin 1) (c : Dev nD) : Dat τ (Elt F) Unit ℕ (UR sig nD τ) ℕ (Pipeline.pin pcfgs (adm m) p) c :=
  match p with
  | 0 => dat0 m c

/-! ### What a point's buffers hold -/

theorem before_0 (c : Dev nD) (t : Fin grid0.N) (d) : (dat0 m c).before (0 : Fin 4) t d = Xb m c t :=
  Dat.before_in_eq_fetched (dat0 m c) (0 : Fin 4) rfl (fun _ => rfl) (fun _ _ _ => rfl) (fun _ => rfl) t d
theorem before_1 (c : Dev nD) (t : Fin grid0.N) (d) : (dat0 m c).before (1 : Fin 4) t d = Ib m c t :=
  Dat.before_in_eq_fetched (dat0 m c) (1 : Fin 4) rfl (fun _ => rfl) (fun _ _ _ => rfl) (fun _ => rfl) t d
theorem before_2 (c : Dev nD) (t : Fin grid0.N) (d) : (dat0 m c).before (2 : Fin 4) t d = ab m c t :=
  Dat.before_in_eq_fetched (dat0 m c) (2 : Fin 4) rfl (fun _ => rfl) (fun _ _ _ => rfl) (fun _ => rfl) t d

/-- The vector's buffer is the same at every point. -/
theorem ab_eq (c : Dev nD) (t t' : Fin grid0.N) : ab m c t = ab m c t' := rfl

/-- The result is written back after the last point only, -/
theorem flush_3 : ∀ t : Fin grid0.N, Window.flushOf grid0 true cc0_transform_3 t = decide (t.val = 9) := by decide +kernel

/-- so after the first point its buffer holds what the point before left. -/
theorem before_3 (c : Dev nD) (t : Fin grid0.N) (ht : t.val ≠ 0) (d) : (dat0 m c).before (3 : Fin 4) t d = outAt m c (t.val - 1) := by
  have hN : t.val < 10 := lt_of_lt_of_eq t.isLt N_0
  have hfl : ((win0 (adm m 0)) 3).flush ⟨t.val - 1, Nat.lt_of_le_of_lt (Nat.sub_le _ _) t.isLt⟩ = false :=
    (Window.flush_eq_flushOf _ _).trans ((flush_3 _).trans (decide_eq_false (by show ¬ t.val - 1 = 9; omega)))
  refine (Dat.before_of_pos (dat0 m c) (3 : Fin 4) t ht (Window.fetch_out _ rfl t) d).trans ?_
  refine (if_neg ?_).trans rfl
  intro h
  exact Bool.false_ne_true (hfl.symm.trans h)

/-! ### The body at a point -/

theorem coords_val : ∀ t : Fin grid0.N, (grid0.coords t 0).val = t.val := by decide +kernel

theorem st_succ (c : Dev nD) (t : Fin grid0.N) :
    st m c (t.val + 1) = (accum (words (T1 m c) t.val) (words (T2 m c) t.val) (ab m c t) (Xb m c t) (Ib m c t) (st m c t.val).2.1 (st m c t.val).1,
      newMax (ab m c t) (Xb m c t) (st m c t.val).2.1, newSum (ab m c t) (Xb m c t) (st m c t.val).2.1 (st m c t.val).2.2) := by
  have h : st m c (t.val + 1) = (accum (words (T1 m c) t.val) (words (T2 m c) t.val) (ab m c (pt 0)) (Xb m c (pt t.val)) (Ib m c (pt t.val)) (st m c t.val).2.1 (st m c t.val).1,
      newMax (ab m c (pt 0)) (Xb m c (pt t.val)) (st m c t.val).2.1, newSum (ab m c (pt 0)) (Xb m c (pt t.val)) (st m c t.val).2.1 (st m c t.val).2.2) := rfl
  rw [h, pt_val, ab_eq m c (pt 0) t]

/-- The tables as held, one by one. -/
theorem tables_eq (c : Dev nD) : (Pipeline.ΦT pre0 (adm m 0).1 c : sProp 𝕄)
    = iprop(owns (c : Thread nD τ) (Memref.whole main_v0) fullShare.right (T1 m c)
      ∗ owns (c : Thread nD τ) (Memref.whole main_v1) fullShare.right (T2 m c)) := by
  have hc : c = ⟨0, by decide⟩ := Subsingleton.elim _ _
  subst hc
  rw [owns_whole, owns_whole]
  exact bigSep_univ_eq_bigSepL [(0 : Fin 2), (1 : Fin 2)] (by decide) (by decide) _

/-- A point's buffers as the body is handed them: window `w`'s current one. -/
abbrev buf (w : Fin 4) (t : Fin grid0.N) := (spec0 w).stage ((cfg0 (adm m 0)).slots t w)

/-- The body at a point, from the invariant and the point's buffers to the next. -/
theorem body_at (c : Dev nD) (h1 : SegWords (T1 m c)) (h2 : SegWords (T2 m c)) (t : Fin grid0.N) (W : sProp 𝕄) :
    iprop(inv m c t.val ∗ W
      ∗ (∃ d, owns (c : Thread nD τ) (buf m 0 t) fullShare ((dat0 m c).before (0 : Fin 4) t d))
      ∗ (∃ d, owns (c : Thread nD τ) (buf m 1 t) fullShare ((dat0 m c).before (1 : Fin 4) t d))
      ∗ (∃ d, owns (c : Thread nD τ) (buf m 2 t) fullShare ((dat0 m c).before (2 : Fin 4) t d))
      ∗ (∃ d, owns (c : Thread nD τ) (buf m 3 t) fullShare ((dat0 m c).before (3 : Fin 4) t d)))
    ⊢ wp frame (wpE (defs₀ (F := F)) Variants.nat (c : Thread nD τ) none) Set.univ
        (cc0__attn_pool_kernel (grid0.coords t) (Memref.whole main_v0) (Memref.isWhole_whole _) (Memref.whole main_v1) (Memref.isWhole_whole _)
          (buf m 0 t) (stage_whole0 0 _) (buf m 1 t) (stage_whole0 1 _)
          (buf m 2 t) (stage_whole0 2 _) (buf m 3 t) (stage_whole0 3 _)
          (Memref.whole cc0_scratch0) (Memref.isWhole_whole _))
        fun _ => iprop(inv m c (t.val + 1) ∗ W
          ∗ owns (c : Thread nD τ) (buf m 0 t) fullShare (Xb m c t)
          ∗ owns (c : Thread nD τ) (buf m 1 t) fullShare (Ib m c t)
          ∗ owns (c : Thread nD τ) (buf m 2 t) fullShare (ab m c t)
          ∗ owns (c : Thread nD τ) (buf m 3 t) fullShare (outAt m c t.val)) := by
  have hlt : t.val < 10 := lt_of_lt_of_eq t.isLt N_0
  have hco : (grid0.coords t 0).val = t.val := coords_val t
  unfold inv
  iintro ⟨⟨⟨%G, %hG, HG⟩, Hp, HT1, HT2⟩, HW, ⟨%d0, H0⟩, ⟨%d1, H1⟩, ⟨%d2, H2⟩, ⟨%d3, H3⟩⟩
  rw [before_0 m c t d0, before_1 m c t d1, before_2 m c t d2]
  iapply (wp_kernel (F := F) c Set.univ (grid0.coords t) (Memref.whole main_v0) (Memref.isWhole_whole _) (Memref.whole main_v1) (Memref.isWhole_whole _)
          (buf m 0 t) (stage_whole0 0 _) (buf m 1 t) (stage_whole0 1 _)
          (buf m 2 t) (stage_whole0 2 _) (buf m 3 t) (stage_whole0 3 _)
          (Memref.whole cc0_scratch0) (Memref.isWhole_whole _) h1 h2 (o := (st m c t.val).1) (m := (st m c t.val).2.1) (s := (st m c t.val).2.2)
          (O := (dat0 m c).before (3 : Fin 4) t d3) (G := G)
          (fun h => by
            have h0 : t.val = 0 := hco.symm.trans h
            rw [h0]; exact ⟨rfl, rfl, rfl⟩)
          (fun h => by
            have h0 : t.val ≠ 0 := fun e => h (hco.trans e)
            refine ⟨(before_3 m c t h0 d3).trans ?_, hG h0⟩
            obtain ⟨n, hn⟩ := Nat.exists_eq_succ_of_ne_zero h0
            rw [hn]
            exact if_neg (by show ¬ n = 9; omega)))
  isplitl [HT1]; iexact HT1
  isplitl [HT2]; iexact HT2
  isplitl [H0]; iexact H0
  isplitl [H1]; iexact H1
  isplitl [H2]; iexact H2
  isplitl [H3]; iexact H3
  isplitl [HG]; iexact HG
  iintro HT1 HT2 H0 H1 H2 H3 HG
  rw [hco]
  isplitl [HG Hp HT1 HT2]
  · isplitl [HG]
    · iexists _
      isplitr
      swap; · iexact HG
      ipureintro; intro _; rw [st_succ]
    isplitl [Hp]; iexact Hp
    isplitl [HT1]; iexact HT1
    iexact HT2
  isplitl [HW]; iexact HW
  isplitl [H0]; iexact H0
  isplitl [H1]; iexact H1
  isplitl [H2]; iexact H2
  have ho : outAt m c t.val = if t.val = 9 then finish (st m c (t.val + 1)).1 (st m c (t.val + 1)).2.2 else (st m c (t.val + 1)).1 := rfl
  rw [ho, st_succ]
  iexact H3

theorem body_obligation (c : Dev nD) (h1 : SegWords (T1 m c)) (h2 : SegWords (T2 m c)) :
    BodyObligation (dats m 0 c) (defs₀ (F := F)) Variants.nat () Set.univ := by
  intro t
  refine BI.Entails.trans (sep_mono .rfl (sep_mono .rfl (Entails.of_eq (bigSep_W0 _)))) ?_
  refine BI.Entails.trans ?_ (wp_mono _ _ _ fun _ => sep_mono .rfl (sep_mono .rfl (Entails.of_eq (bigSep_W0 _).symm)))
  exact body_at m c h1 h2 t ((dats m 0 c).owesAt () t.castSucc)

/-! ### The launch -/

/-- The program's run: it ends, every semaphore at zero, with each array of the pipeline as the pipeline leaves it and every other
    buffer as it was when the pipeline was entered. -/
theorem run_main (h1 : ∀ c, SegWords (T1 m c)) (h2 : ∀ c, SegWords (T2 m c)) :
    θ_run (defs (F := F)) (onTc (τ := τ) (main (F := F))) ⟨m, fun _ => 0, g⟩
      (fun r => Pipeline.FramePost (Pipeline.pin pcfgs (adm m)) (dats m) 0 (V m) r ∧ r.2.sem = fun _ => 0) :=
  Pipeline.θ_run_frameP_track pcfgs (adm m) (dats m) (0 : Fin 1) launch0 (defs₀ (F := F)) Variants.nat m g main
    (hbody := fun c => (body_obligation m c (h1 c) (h2 c)).loose)
    (hshare := fun c w => by unfold Dat.share; split <;> rfl)
    (howed := fun _ _ => rfl) (V := V m)
    (hmain := Pipeline.hmainP_prefix pcfgs (0 : Fin 1) (defs₀ (F := F)) Variants.nat m main hostOps0 hostOps0_sub ⟨rfl, rfl, rfl⟩ main_chain)
    (hA := fun _ _ => rfl)
    (hpf := fun c k => by
      have hc : c = ⟨0, by decide⟩ := Subsingleton.elim _ _
      subst hc
      rfl)
    (hin := fun c => by
      show iprop((Pipeline.scopedRest spec0 c ∗ ∃ r, prngReg c r) ∗ Pipeline.ΦT pre0 (adm m 0).1 c) ⊢ inv m c 0
      rw [tables_eq, scopedRest0_eq]
      unfold inv
      iintro ⟨⟨⟨%f, Hf⟩, Hp⟩, H1, H2⟩
      isplitl [Hf]
      · iexists f
        isplitr
        · ipureintro; intro h; exact absurd rfl h
        rw [owns_whole]
        iexact Hf
      isplitl [Hp]; iexact Hp
      isplitl [H1]; iexact H1
      iexact H2)
    (hout := fun c => by
      show inv m c _ ⊢ iprop(Pipeline.scopedRest spec0 c ∗ ∃ r, prngReg c r)
      rw [scopedRest0_eq]
      unfold inv
      iintro ⟨⟨%G, -, HG⟩, Hp, -, -⟩
      isplitl [HG]
      · iexists G
        rw [owns_whole]
        exact Entails.rfl
      iexact Hp) (Q' := _)

/-! ### What the run ends with -/

/-- The arguments are not touched before the pipeline is entered; the tables are slices of the segments. -/
theorem V_arg0 (c : Dev nD) : V m c main_arg0 = m ((c : Thread nD τ).loc main_arg0) := rfl
theorem V_arg1 (c : Dev nD) : V m c main_arg1 = m ((c : Thread nD τ).loc main_arg1) := rfl
theorem V_arg2 (c : Dev nD) : V m c main_arg2 = m ((c : Thread nD τ).loc main_arg2) := rfl
theorem T1_eq (c : Dev nD) : T1 m c = Host.slice S50 ![0] ![2000] (m ((c : Thread nD τ).loc main_arg1)) slicesBy_S100000_S50_0s2000 := rfl
theorem T2_eq (c : Dev nD) : T2 m c = Host.slice S50 ![1999] ![2000] (m ((c : Thread nD τ).loc main_arg1)) slicesBy_S100000_S50_1999s2000 := rfl

/-- The segments' own array is among the buffers the pipeline passes by. -/
theorem rest_arg1 : main_arg1 ∈ Pipeline.restRefs sig spec0 := by decide

/-- The last point alone writes the result back, all of it. -/
theorem whole_3 : ((win0 (adm m 0)) 3).WholeAt t0_9 := by
  have hfl : ∀ t : Fin grid0.N, ((win0 (adm m 0)) 3).flush t = decide (t.val = 9) :=
    fun t => (Window.flush_eq_flushOf _ _).trans (flush_3 t)
  refine ⟨hfl t0_9, fun t ht => Fin.ext (of_decide_eq_true ((hfl t).symm.trans ht)), fun a => ?_⟩
  have h : ∀ a : Fin 2, cc0_transform_3 (grid0.coords t0_9) a = 0 := by decide +kernel
  exact ⟨h a, rfl⟩

/-- The last point's buffer is the whole result. -/
theorem result_eq (c : Dev nD) : (dats m 0 c).arrAt (3 : Fin 4) grid0.N = outAt m c 9 := by
  refine Dat.arrAt_eq_of_after_last (dats m 0 c) (3 : Fin 4) t0_9 (whole_3 m) _ fun j => ?_
  rfl

/-- The run, its segments below 512: the arguments end unchanged, the result holds what the last point left, every semaphore is at zero. -/
theorem run_end (hI : ∀ (c : Dev nD) x, Seg (m ((c : Thread nD τ).loc main_arg1) x)) :
    θ_run (defs (F := F)) (onTc (τ := τ) (main (F := F))) ⟨m, fun _ => 0, g⟩
      (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_v3) = outAt m c 9) ∧ r.2.sem = fun _ => 0) := by
  refine (θ_run _ _ _).mono ?_ (run_main m g (fun c n => by rw [T1_eq]; exact hI c _) (fun c n => by rw [T2_eq]; exact hI c _))
  rintro r ⟨h, hz⟩
  refine ⟨fun c => ⟨?_, ?_, ?_, ?_⟩, hz⟩
  · exact ((h c).1 (0 : Fin 4)).trans ((Dat.arrAt_in (dats m 0 c) (0 : Fin 4) rfl _).trans (V_arg0 m c))
  · exact ((h c).2 main_arg1 rest_arg1).trans (V_arg1 m c)
  · exact ((h c).1 (2 : Fin 4)).trans ((Dat.arrAt_in (dats m 0 c) (2 : Fin 4) rfl _).trans (V_arg2 m c))
  · exact ((h c).1 (3 : Fin 4)).trans (result_eq m c)

end Cert.KernelIdeal.Run

end
-- ==== Proof.Pool.Pre.lean ====
/-
  What the preconditions say: that every segment is at least 0 and below 512, read off the predicate's words.
-/
module

public import proofs.«01_k».proof.Pre_ids_in_range
public import proofs.«01_k».proof.Proof.Pool.Steps
public import Idealize.ShloMosaic.Lib.StableHlo.Predicate

@[expose] public section

namespace Cert.Pool

open Idealize.ShloMosaic

variable {F : FTy → Type} [FloatOps F]

instance facts_ids : Cert.Pre_ids_in_range.Facts := ⟨by decide⟩

/-- A word at least 0 and below 512, both signed, is a segment. -/
theorem seg_of_cmp {w : BitVec 32} (h : IntOp.andi (IntOp.cmpi .sge w 0#32) (IntOp.cmpi .slt w 512#32) = 1#1) : Seg w := by
  have hand : ∀ a b : BitVec 1, a &&& b = 1#1 → a = 1#1 ∧ b = 1#1 := by decide
  obtain ⟨h0, h1⟩ := hand _ _ h
  have g0 : BitVec.ofBool ((0#32).sle w) = 1#1 := h0
  have g1 : BitVec.ofBool (w.slt 512#32) = 1#1 := h1
  simp only [BitVec.sle, BitVec.slt, StableHlo.Predicate.ofBool_eq_one_iff, decide_eq_true_eq] at g0 g1
  have e0 : (0#32).toInt = 0 := by decide
  have e1 : (512#32).toInt = 512 := by decide
  rw [e0] at g0
  rw [e1] at g1
  unfold Seg
  have hb := BitVec.toInt_eq_toNat_cond w
  have := w.isLt
  split at hb <;> omega

/-- The predicate all ones puts every segment below 512. -/
theorem seg_of_ids {x0 x1 x2} (h : Cert.Pre_ids_in_range.fn (F := F) x0 x1 x2 = fun _ => 1#1) (i) : Seg (x1 i) :=
  seg_of_cmp (congrFun h i)

end Cert.Pool

end
-- ==== Proof.Value.Blocks.lean ====
/-
  What a grid point's buffers hold, in rows of the whole arrays: row `i` of point `t` is row 10000·t + i, and word `n` of
  the two tables is the segment of the first and of the last row of half `n`.
-/
module

public import proofs.«01_k».proof.Proof.KernelIdeal.Run
public import Idealize.ShloMosaic.Lib.Pointwise

@[expose] public section

set_option maxRecDepth 16384

noncomputable section

namespace Cert.Value

open Cert.KernelIdeal Cert.KernelIdeal.Gen Cert.KernelIdeal.Run Cert.Pool
open Idealize.ShloMosaic
open Idealize.ShloMosaic.TcCoe

variable (m : (ℓ : Loc nD τ sig) → Buf (Elt Ideal) ℓ) (c : Dev nD)

theorem index_0 : ∀ t : Fin grid0.N, cc0_transform_0 (grid0.coords t) = ![t.val, 0] := by decide +kernel
theorem index_1 : ∀ t : Fin grid0.N, cc0_transform_1 (grid0.coords t) = ![t.val, 0, 0] := by decide +kernel
theorem index_2 : ∀ t : Fin grid0.N, cc0_transform_2 (grid0.coords t) = ![0, 0] := by decide +kernel

theorem Xb_apply (t : Fin grid0.N) (i : Fin 10000) (d : Fin 256) (n : Fin 100000) (hn : n.val = 10000 * t.val + i.val) :
    Xb m c t (ix2 i d) = (m ((c : Thread nD τ).loc main_arg0) : FVec Ideal S100000x256 .f32) (ix2 n d) := by
  unfold Xb
  refine congrArg (m ((c : Thread nD τ).loc main_arg0)) (funext fun a => Fin.ext ?_)
  have e := index_0 t
  match a with
  | ⟨0, _⟩ =>
    show cc0_transform_0 (grid0.coords t) 0 * 10000 + 1 * i.val = n.val
    rw [e, hn]; show t.val * 10000 + 1 * i.val = _; omega
  | ⟨1, _⟩ =>
    show cc0_transform_0 (grid0.coords t) 1 * 256 + 1 * d.val = d.val
    rw [e]; show 0 * 256 + 1 * d.val = _; omega

theorem ab_apply (t : Fin grid0.N) (d : Fin 256) :
    ab m c t (ix2 d 0) = (m ((c : Thread nD τ).loc main_arg2) : FVec Ideal S256x1 .f32) (ix2 d 0) := by
  unfold ab
  refine congrArg (m ((c : Thread nD τ).loc main_arg2)) (funext fun a => Fin.ext ?_)
  have e := index_2 t
  match a with
  | ⟨0, _⟩ =>
    show cc0_transform_2 (grid0.coords t) 0 * 256 + 1 * d.val = d.val
    rw [e]; show 0 * 256 + 1 * d.val = _; omega
  | ⟨1, _⟩ =>
    show cc0_transform_2 (grid0.coords t) 1 * 1 + 1 * 0 = 0
    rw [e]; rfl

theorem V_v2 : V m c main_v2 = shapeCast S10x1x10000 (m ((c : Thread nD τ).loc main_arg1)) shapeCasts_S100000_S10x1x10000 := rfl

theorem Ib_apply (t : Fin grid0.N) (i : Fin 10000) (n : Fin 100000) (hn : n.val = 10000 * t.val + i.val) :
    Ib m c t (ix3 0 0 i) = (m ((c : Thread nD τ).loc main_arg1) : IVec S100000 32) (ix1 n) := by
  have h10 : t.val < 10 := lt_of_lt_of_eq t.isLt N_0
  have h1 : Ib m c t (ix3 0 0 i) = V m c main_v2 (ix3 ⟨t.val, h10⟩ 0 i : S10x1x10000.Idx) := by
    unfold Ib
    refine congrArg (V m c main_v2) (funext fun a => Fin.ext ?_)
    have e := index_1 t
    match a with
    | ⟨0, _⟩ =>
      show cc0_transform_1 (grid0.coords t) 0 * 1 + 1 * 0 = t.val
      rw [e]; show t.val * 1 + 1 * 0 = _; omega
    | ⟨1, _⟩ =>
      show cc0_transform_1 (grid0.coords t) 1 * 1 + 1 * 0 = 0
      rw [e]; rfl
    | ⟨2, _⟩ =>
      show cc0_transform_1 (grid0.coords t) 2 * 10000 + 1 * i.val = i.val
      rw [e]; show 0 * 10000 + 1 * i.val = _; omega
  rw [h1, V_v2]
  generalize (m ((c : Thread nD τ).loc main_arg1)) = I
  have h2 : ∀ I : IVec S100000 32, shapeCast S10x1x10000 I shapeCasts_S100000_S10x1x10000 (ix3 ⟨t.val, h10⟩ 0 i) = I (ix1 n) := by
    intro I
    pointwise
    exact congrArg I (congrArg ix1 (Fin.ext (by rw [hn]; simp only; omega)))
  exact h2 I

theorem word_T1 (n : ℕ) (hn : n < 50) (k : Fin 100000) (hk : k.val = 2000 * n) :
    word (T1 m c) n = (m ((c : Thread nD τ).loc main_arg1) : IVec S100000 32) (ix1 k) := by
  have e : word (T1 m c) n = T1 m c (ix1 (⟨n % 50, Nat.mod_lt n (by decide)⟩ : Fin 50)) :=
    congrArg (T1 m c) (funext fun a => by fin_cases a; rfl)
  rw [e, T1_eq]
  generalize (m ((c : Thread nD τ).loc main_arg1)) = I
  have h2 : ∀ I : IVec S100000 32, Host.slice S50 ![0] ![2000] I slicesBy_S100000_S50_0s2000 (ix1 (⟨n % 50, Nat.mod_lt n (by decide)⟩ : Fin 50)) = I (ix1 k) := by
    intro I
    pointwise
    exact congrArg I (congrArg ix1 (Fin.ext (by rw [hk]; simp only; omega)))
  exact h2 I

theorem word_T2 (n : ℕ) (hn : n < 50) (k : Fin 100000) (hk : k.val = 2000 * n + 1999) :
    word (T2 m c) n = (m ((c : Thread nD τ).loc main_arg1) : IVec S100000 32) (ix1 k) := by
  have e : word (T2 m c) n = T2 m c (ix1 (⟨n % 50, Nat.mod_lt n (by decide)⟩ : Fin 50)) :=
    congrArg (T2 m c) (funext fun a => by fin_cases a; rfl)
  rw [e, T2_eq]
  generalize (m ((c : Thread nD τ).loc main_arg1)) = I
  have h2 : ∀ I : IVec S100000 32, Host.slice S50 ![1999] ![2000] I slicesBy_S100000_S50_1999s2000 (ix1 (⟨n % 50, Nat.mod_lt n (by decide)⟩ : Fin 50)) = I (ix1 k) := by
    intro I
    pointwise
    exact congrArg I (congrArg ix1 (Fin.ext (by rw [hk]; simp only; omega)))
  exact h2 I

/-- A half of a point's rows, at an index. -/
theorem xs_apply (X : FVec Ideal S10000x256 .f32) (j : Fin 5) (i : Fin 2000) (d : Fin 256) (n : Fin 10000)
    (hn : n.val = 2000 * j.val + i.val) : xs X j (ix2 i d) = X (ix2 n d) := by
  refine congrArg X (funext fun a => Fin.ext ?_)
  match a with
  | ⟨0, _⟩ => show 2000 * j.val + 1 * i.val = n.val; omega
  | ⟨1, _⟩ => show 0 + 1 * d.val = d.val; omega

theorem ids_apply (I : IVec S1x1x10000 32) (j : Fin 5) (i : Fin 2000) (n : Fin 10000) (hn : n.val = 2000 * j.val + i.val) :
    ids I j (ix2 0 i) = I (ix3 0 0 n) := by
  have e : ids I j (ix2 0 i) = is I j (ix3 0 0 i) := by
    unfold ids
    generalize is I j = y
    pointwise
  rw [e]
  refine congrArg I (funext fun a => Fin.ext ?_)
  match a with
  | ⟨0, _⟩ => rfl
  | ⟨1, _⟩ => rfl
  | ⟨2, _⟩ => show 2000 * j.val + 1 * i.val = n.val; omega

end Cert.Value

end
-- ==== Proof.Value.Payloads.lean ====
/-
  The kernel's steps at an index, over the extended reals: the scores of a half, the largest score of a point and its
  running maximum, the weights, the running sum, and the rows a window gets.
-/
module

public import proofs.«01_k».proof.Proof.Pool.Steps
public import Idealize.ShloMosaic.Lib.Pointwise
public import Idealize.ShloMosaic.PureOps.Ideal.Laws

@[expose] public section

set_option maxRecDepth 16384

noncomputable section

namespace Cert.Value

open Cert.KernelIdeal Cert.KernelIdeal.Gen Cert.Pool
open Idealize.ShloMosaic

/-- The word the maxima start from is the least value. -/
theorem ofBits_least : Ideal.ofBits .f32 0xFF800000#32 = ⊥ := by
  simp [Ideal.ofBits, Ideal.ieee]

/-- A score: the product of a row and the attention vector. -/
theorem sc_apply (a : FVec Ideal S256x1 .f32) (X : FVec Ideal S10000x256 .f32) (j : Fin 5) (z : Fin 1) (n : Fin 2000) :
    sc a X j (ix2 z n) = ∑ d : Fin 256, a (ix2 d 0) * xs X j (ix2 n d) := by
  have hz : z = 0 := Subsingleton.elim _ _
  subst hz
  unfold sc
  pointwise [k0_pay11, k0_pay9, k0_pay10]

/-- The maximum of five, as the program takes it. -/
theorem sup_five (f : Fin 5 → EReal) : max (max (max (max (max ⊥ (f 0)) (f 1)) (f 2)) (f 3)) (f 4) = Finset.univ.sup f := by
  rw [show (Finset.univ : Finset (Fin 5)) = {0, 1, 2, 3, 4} from rfl]
  simp only [Finset.sup_insert, Finset.sup_singleton, bot_sup_eq, sup_assoc]

/-- A sum over a unit axis and another is the sum over the other. -/
theorem sum_unit (f : Fin 2000 → EReal) : ∑ _ : Fin 1, ∑ n, f n = ∑ n, f n := by
  rw [Fin.sum_univ_one]

/-- The point's largest score. -/
theorem blkMax_eq (a : FVec Ideal S256x1 .f32) (X : FVec Ideal S10000x256 .f32) :
    blkMax a X = Finset.univ.sup fun j : Fin 5 => Finset.univ.sup fun n : Fin 2000 => sc a X j (ix2 0 n) := by
  unfold blkMax m01 m2
  have e (f : Fin 2000 → EReal) : (Finset.univ.fold max ⊥ fun x : Fin 1 × Fin 2000 => f x.2) = Finset.univ.sup f := by
    rw [← Finset.univ_product_univ]
    show (Finset.univ ×ˢ Finset.univ).sup (fun x : Fin 1 × Fin 2000 => f x.2) = _
    rw [Finset.sup_product_left]
    simp
  have e13 : k0_pay13 a (xs X 1) = sc a X 1 := rfl
  have e15 : k0_pay15 a (xs X 2) = sc a X 2 := rfl
  have e11 : k0_pay11 a (xs X 0) = sc a X 0 := rfl
  pointwise [k0_pay22, k0_pay20, k0_pay21]
  rw [e13, e15, e11, ofBits_least]
  generalize hs : sc a X = s
  rw [e fun n => s 0 (ix2 0 n), e fun n => s 1 (ix2 0 n), e fun n => s 2 (ix2 0 n), e fun n => s 3 (ix2 0 n), e fun n => s 4 (ix2 0 n)]
  exact sup_five fun j : Fin 5 => Finset.univ.sup fun n : Fin 2000 => s j (ix2 0 n)

theorem newMax_eq (a : FVec Ideal S256x1 .f32) (X : FVec Ideal S10000x256 .f32) (m : EReal) :
    newMax a X m = max m (blkMax a X) := rfl

theorem alpha_eq (a : FVec Ideal S256x1 .f32) (X : FVec Ideal S10000x256 .f32) (m : EReal) :
    alpha a X m = Ideal.exp (m - newMax a X m) := rfl

theorem prob_apply (a : FVec Ideal S256x1 .f32) (X : FVec Ideal S10000x256 .f32) (m : EReal) (j : Fin 5) (y : S1x2000.Idx) :
    prob a X m j y = Ideal.exp (sc a X j y - newMax a X m) := rfl

theorem newSum_apply (a : FVec Ideal S256x1 .f32) (X : FVec Ideal S10000x256 .f32) (m s : EReal) :
    newSum a X m s = s * alpha a X m + ∑ j : Fin 5, ∑ n : Fin 2000, prob a X m j (ix2 0 n) := by
  unfold newSum
  have e26 : k0_pay26 (sc a X 1) (sc a X 3) (sc a X 4) m (m01 a X) (m2 a X) = prob a X m 1 := rfl
  have e27 : k0_pay27 (sc a X 2) (sc a X 3) (sc a X 4) m (m01 a X) (m2 a X) = prob a X m 2 := rfl
  have e28 : k0_pay28 (sc a X 3) (sc a X 4) m (m01 a X) (m2 a X) = prob a X m 3 := rfl
  have e29 : k0_pay29 (sc a X 3) (sc a X 4) m (m01 a X) (m2 a X) = prob a X m 4 := rfl
  have e25 : k0_pay25 (sc a X 0) (sc a X 3) (sc a X 4) m (m01 a X) (m2 a X) = prob a X m 0 := rfl
  pointwise [k0_pay32, k0_pay30, k0_pay31]
  rw [e25, e26, e27, e28, e29, Fin.sum_univ_five]
  exact congrArg (s * alpha a X m + ·) (congrArg₂ (· + ·) (congrArg₂ (· + ·) (congrArg₂ (· + ·) (congrArg₂ (· + ·)
    (sum_unit _) (sum_unit _)) (sum_unit _)) (sum_unit _)) (sum_unit _))

theorem rescaled_apply (a : FVec Ideal S256x1 .f32) (X : FVec Ideal S10000x256 .f32) (m : EReal) (o : FVec Ideal S512x256 .f32)
    (g : Fin 512) (d : Fin 256) :
    rescaled a X m o (ix2 g d) = if m < blkMax a X then o (ix2 g d) * alpha a X m else o (ix2 g d) := by
  unfold rescaled
  rw [Ideal.scalar_cmpf_def]
  unfold Ideal.cmp
  generalize blkMax a X = b
  by_cases hc : m < b
  · rw [if_pos hc, if_pos (by simp [hc])]
    pointwise [k0_pay33]
  · rw [if_neg hc, if_neg (by simp [hc])]

/-- The product of a window, summed over the half's rows. -/
theorem pay3_apply (ids : IVec S1x2000 32) (p : FVec Ideal S1x2000 .f32) (x : FVec Ideal S2000x256 .bf16) (l : BitVec 32)
    (o : FVec Ideal S32x256 .f32) (i : Fin 32) (d : Fin 256) :
    k0_pay3 rows ids p x l o (ix2 i d) = o (ix2 i d) + ∑ n : Fin 2000,
      Scalar.select (IntOp.andi (IntOp.cmpi .eq (IntOp.addi (BitVec.ofNat 32 i.val) (Scalar.minsi l 480#32)) (ids (ix2 0 n)))
        (IntOp.cmpi .sge (ids (ix2 0 n)) l)) (p (ix2 0 n) * x (ix2 n d)) 0 := by
  unfold rows
  pointwise [k0_pay3]

theorem pay41_apply (ids : IVec S1x2000 32) (p : FVec Ideal S1x2000 .f32) (x : FVec Ideal S2000x256 .bf16) (w : BitVec 32)
    (o : FVec Ideal S32x256 .f32) (i : Fin 32) (d : Fin 256) :
    k0_pay41 x p rows ids w o (ix2 i d) = o (ix2 i d) + ∑ n : Fin 2000,
      Scalar.select (IntOp.cmpi .eq (IntOp.addi (BitVec.ofNat 32 i.val) (k0_mult1 w)) (ids (ix2 0 n)))
        (p (ix2 0 n) * x (ix2 n d)) 0 := by
  have e : k0_pay41 x p rows ids w o = addf (shapeCast S32x256 o shapeCasts_S32x256_S32x256)
      (matmul dot_S32x2000_S2000x256_S32x256_1_0_0_1_n_n none (truncf .bf16 (select
        (cmpi .eq (addi rows (broadcast S32x2000 (k0_mult1 w))) (broadcastTo S32x2000 ids broadcasts_S1x2000_S32x2000))
        (broadcastTo S32x2000 (shapeCast S1x2000 p shapeCasts_S1x2000_S1x2000) broadcasts_S1x2000_S32x2000)
        (broadcast S32x2000 (Scalar.ofBits .f32 0x00000000#32))) bitsLt_bf16_f32) x (constant S32x256 .f32 0x00000000#32)) := rfl
  rw [e]
  unfold rows
  pointwise

theorem finish_apply (o : FVec Ideal S512x256 .f32) (s : EReal) (g : Fin 512) (d : Fin 256) :
    finish o s (ix2 g d) = Ideal.div (o (ix2 g d)) s := by
  unfold finish
  pointwise [k0_pay2]

end Cert.Value

end
-- ==== Proof.Value.Half.lean ====
/-
  One half's accumulation, as a sum. The windows of 32 rows that the first accumulation and the while loop write cover
  every row from the first window's base on, each once, so a half whose segments lie between its first and its last one
  adds to each row the weighted rows of the half that belong to that segment.
-/
module

public import proofs.«01_k».proof.Proof.Value.Payloads

@[expose] public section

set_option maxRecDepth 16384

noncomputable section

namespace Cert.Value

open Cert.KernelIdeal Cert.KernelIdeal.Gen Cert.Pool
open Idealize.ShloMosaic

/-- What a half adds to row `g`: the weighted rows of its members of segment `g`. -/
def part (ids : IVec S1x2000 32) (p : FVec Ideal S1x2000 .f32) (x : FVec Ideal S2000x256 .bf16) (g : ℕ) (d : Fin 256) : EReal :=
  ∑ n : Fin 2000, if (ids (ix2 0 n)).toNat = g then p (ix2 0 n) * x (ix2 n d) else 0

/-- A window of 32 rows put at row `b`, read at an index: inside, the payload; outside, what was there. -/
theorem put_rows {off : Fin 2 → ℕ} {b : ℕ} (h : off = ![b, 0]) (hb : b ≤ 480) (o : FVec Ideal S512x256 .f32)
    (w : FVec Ideal S32x256 .f32) (g : Fin 512) (d : Fin 256) :
    VecWindow.put o off S32x256.size w (ix2 g d)
      = if hg : b ≤ g.val ∧ g.val < b + 32 then w (ix2 ⟨g.val - b, by omega⟩ d) else o (ix2 g d) := by
  subst h
  unfold VecWindow.put
  by_cases hg : b ≤ g.val ∧ g.val < b + 32
  · have hh : ∀ a, (![b, 0] : Fin 2 → ℕ) a ≤ ((ix2 g d : S512x256.Idx) a).val
        ∧ ((ix2 g d : S512x256.Idx) a).val < (![b, 0] : Fin 2 → ℕ) a + S32x256.size a := by
      intro a; fin_cases a
      · exact hg
      · exact ⟨Nat.zero_le _, by show d.val < 0 + 256; omega⟩
    rw [dif_pos hg, dif_pos hh]
    refine congrArg w (funext fun a => ?_)
    fin_cases a <;> exact Fin.ext rfl
  · rw [dif_neg hg, dif_neg]
    intro hh
    exact hg (hh 0)

/-- The window read at row `b`. -/
theorem rd_rows {off : Fin 2 → ℕ} {b : ℕ} (h : off = ![b, 0]) (o : FVec Ideal S512x256 .f32) (g : Fin 512) (d : Fin 256)
    (hg : b ≤ g.val ∧ g.val < b + 32) : rd off o (ix2 ⟨g.val - b, by omega⟩ d : S32x256.Idx) = o (ix2 g d) := by
  subst h
  refine congrArg o (funext fun a => ?_)
  fin_cases a
  · refine Fin.ext ?_
    show (b + (g.val - b)) % 512 = g.val
    rw [Nat.mod_eq_of_lt] <;> omega
  · refine Fin.ext ?_
    show (0 + d.val) % 256 = d.val
    rw [Nat.mod_eq_of_lt] <;> omega

/-- The word of row `i` of a window at the row a word names. -/
theorem row_word {i b : ℕ} {w : BitVec 32} (hw : w.toNat = b) (h : i + b < 2 ^ 31) :
    (IntOp.addi (BitVec.ofNat 32 i) w).toNat = i + b := by
  have e : (IntOp.addi (BitVec.ofNat 32 i) w).toNat = ((BitVec.ofNat 32 i).toNat + w.toNat) % 2 ^ 32 := BitVec.toNat_add _ _
  rw [e, hw, BitVec.toNat_ofNat, Nat.mod_eq_of_lt (a := i) (by omega), Nat.mod_eq_of_lt (by omega)]

/-- The first window's accumulation at an index. -/
theorem firstOut_apply {first : BitVec 32} (hf : Seg first) (ids : IVec S1x2000 32) (p : FVec Ideal S1x2000 .f32)
    (x : FVec Ideal S2000x256 .bf16) (o : FVec Ideal S512x256 .f32) (g : Fin 512) (d : Fin 256) :
    firstOut first ids p x o (ix2 g d) = o (ix2 g d)
      + if min (first.toNat / 8 * 8) 480 ≤ g.val ∧ g.val < min (first.toNat / 8 * 8) 480 + 32 then part ids p x g.val d else 0 := by
  unfold firstOut
  rw [put_rows (off2_eq hf) (by omega)]
  by_cases hg : min (first.toNat / 8 * 8) 480 ≤ g.val ∧ g.val < min (first.toNat / 8 * 8) 480 + 32
  · rw [dif_pos hg, if_pos hg, pay41_apply, rd_rows (off2_eq hf) o g d hg]
    congr 1
    refine Finset.sum_congr rfl fun n _ => ?_
    unfold Scalar.select
    rw [WordCmp.cmpi_eq_eq_toNat, row_word (base_toNat hf) (by simp only; omega)]
    have e : ((⟨g.val - min (first.toNat / 8 * 8) 480, by omega⟩ : Fin 32).val + min (first.toNat / 8 * 8) 480 = (ids (ix2 0 n)).toNat)
        ↔ (ids (ix2 0 n)).toNat = g.val := by simp only; omega
    by_cases h : (ids (ix2 0 n)).toNat = g.val
    · rw [if_pos h, if_pos (by rw [decide_eq_true (e.mpr h)]; rfl)]
    · rw [if_neg h, if_neg (by rw [decide_eq_false (fun hh => h (e.mp hh))]; decide)]
  · rw [dif_neg hg, if_neg hg, add_zero]

/-- One trip's accumulation at an index. -/
theorem trip_apply {l : BitVec 32} (hl : Ctr l) (ids : IVec S1x2000 32) (hi : ∀ n, Seg (ids (ix2 0 n))) (p : FVec Ideal S1x2000 .f32)
    (x : FVec Ideal S2000x256 .bf16) (o : FVec Ideal S512x256 .f32) (g : Fin 512) (d : Fin 256) :
    trip ids p x l o (ix2 g d) = o (ix2 g d) + if l.toNat ≤ g.val ∧ g.val < (next l).toNat then part ids p x g.val d else 0 := by
  unfold trip
  have h512 := hl.2
  rw [put_rows (off3_eq hl.2) (by omega), next_toNat hl.2]
  by_cases hg : min l.toNat 480 ≤ g.val ∧ g.val < min l.toNat 480 + 32
  · rw [dif_pos hg, pay3_apply, rd_rows (off3_eq hl.2) o g d hg]
    congr 1
    have e : ∀ n : Fin 2000, Scalar.select (IntOp.andi (IntOp.cmpi .eq (IntOp.addi (BitVec.ofNat 32 (g.val - min l.toNat 480)) (Scalar.minsi l 480#32)) (ids (ix2 0 n)))
        (IntOp.cmpi .sge (ids (ix2 0 n)) l)) (p (ix2 0 n) * x (ix2 n d)) 0
        = if (ids (ix2 0 n)).toNat = g.val ∧ l.toNat ≤ g.val then p (ix2 0 n) * x (ix2 n d) else 0 := by
      intro n
      have hn : (ids (ix2 0 n)).toNat < 512 := hi n
      have hlo : (Scalar.minsi l 480#32).toNat = min l.toNat 480 := lo_toNat hl.2
      unfold Scalar.select
      rw [WordCmp.cmpi_eq_eq_toNat, row_word hlo (by omega), WordCmp.cmpi_sge_of_lt (by omega) (by omega),
        WordCmp.andi_ofBool]
      have e : (g.val - min l.toNat 480 + min l.toNat 480 = (ids (ix2 0 n)).toNat ∧ l.toNat ≤ (ids (ix2 0 n)).toNat)
          ↔ ((ids (ix2 0 n)).toNat = g.val ∧ l.toNat ≤ g.val) := by omega
      rw [← Bool.decide_and]
      by_cases h : (ids (ix2 0 n)).toNat = g.val ∧ l.toNat ≤ g.val
      · rw [if_pos h, if_pos (by rw [decide_eq_true (e.mpr h)]; rfl)]
      · rw [if_neg h, if_neg (by rw [decide_eq_false (fun hh => h (e.mp hh))]; decide)]
    rw [Finset.sum_congr rfl fun n _ => e n]
    by_cases h : l.toNat ≤ g.val
    · rw [if_pos ⟨h, hg.2⟩]
      unfold part
      exact Finset.sum_congr rfl fun n _ => by simp only [h, and_true]
    · rw [if_neg fun hh => h hh.1]
      exact Finset.sum_eq_zero fun n _ => if_neg fun hh => h hh.2
  · rw [dif_neg hg, if_neg (fun hh => hg ⟨by omega, hh.2⟩), add_zero]

/-- The loop adds to every row from its counter on, when its trips suffice to pass the last segment. -/
theorem loopOut_apply {last : BitVec 32} (hlast : Seg last) (ids : IVec S1x2000 32) (hi : ∀ n, Seg (ids (ix2 0 n)))
    (hle : ∀ n, (ids (ix2 0 n)).toNat ≤ last.toNat) (p : FVec Ideal S1x2000 .f32) (x : FVec Ideal S2000x256 .bf16) (g : Fin 512)
    (d : Fin 256) (k : ℕ) : ∀ (l : BitVec 32), Ctr l → last.toNat < l.toNat + 32 * k → ∀ o : FVec Ideal S512x256 .f32,
    loopOut last ids p x k l o (ix2 g d) = o (ix2 g d) + if l.toNat ≤ g.val then part ids p x g.val d else 0 := by
  have hl512 : last.toNat < 512 := hlast
  have h0 : last.toNat < g.val → part ids p x g.val d = 0 := fun h =>
    Finset.sum_eq_zero fun n _ => if_neg (by have := hle n; omega)
  induction k with
  | zero =>
    intro l hl hk o
    show o (ix2 g d) = _
    by_cases h : l.toNat ≤ g.val
    · rw [if_pos h, h0 (by omega), add_zero]
    · rw [if_neg h, add_zero]
  | succ k ih =>
    intro l hl hk o
    have h512 := hl.2
    unfold loopOut
    by_cases h : l.toNat ≤ last.toNat
    · rw [if_pos ((sle_iff hl hlast).mpr h), ih (next l) hl.next (by rw [next_toNat hl.2]; omega), trip_apply hl ids hi, add_assoc]
      congr 1
      have hn := next_toNat hl.2
      by_cases h1 : l.toNat ≤ g.val
      · by_cases h2 : (next l).toNat ≤ g.val
        · rw [if_neg (by omega), if_pos h2, if_pos h1, zero_add]
        · rw [if_pos ⟨h1, by omega⟩, if_neg h2, if_pos h1, add_zero]
      · rw [if_neg (by omega), if_neg (by omega), if_neg h1, add_zero]
    · rw [if_neg fun hh => h ((sle_iff hl hlast).mp hh)]
      by_cases h1 : l.toNat ≤ g.val
      · rw [if_pos h1, h0 (by omega), add_zero]
      · rw [if_neg h1, add_zero]

/-- A half adds to every row its members of that segment. -/
theorem halfOut_apply {first last : BitVec 32} (hfirst : Seg first) (hlast : Seg last) (ids : IVec S1x2000 32)
    (hi : ∀ n, first.toNat ≤ (ids (ix2 0 n)).toNat ∧ (ids (ix2 0 n)).toNat ≤ last.toNat) (p : FVec Ideal S1x2000 .f32)
    (x : FVec Ideal S2000x256 .bf16) (o : FVec Ideal S512x256 .f32) (g : Fin 512) (d : Fin 256) :
    halfOut first last ids p x o (ix2 g d) = o (ix2 g d) + part ids p x g.val d := by
  have hl512 : last.toNat < 512 := hlast
  unfold halfOut
  have hs := start_toNat hfirst
  rw [loopOut_apply hlast ids (fun n => lt_of_le_of_lt (hi n).2 hl512) (fun n => (hi n).2) p x g d 15 (start first)
    (start_ctr hfirst) (by omega), firstOut_apply hfirst, add_assoc]
  congr 1
  by_cases h1 : (start first).toNat ≤ g.val
  · rw [if_neg (by omega), if_pos h1, zero_add]
  · rw [if_neg h1, add_zero]
    by_cases h2 : min (first.toNat / 8 * 8) 480 ≤ g.val
    · rw [if_pos ⟨h2, by omega⟩]
    · rw [if_neg fun hh => h2 hh.1]
      exact (Finset.sum_eq_zero fun n _ => if_neg (by have := (hi n).1; omega)).symm

end Cert.Value

end
-- ==== Proof.Value.Weights.lean ====
/-
  Weights in the extended reals: the exponential of a score less a maximum is a real number between 0 and 1, weights
  taken at an old maximum and rescaled are the weights at the new one, and a product with a real number that is not
  negative distributes over sums.
-/
module

public import Idealize.ShloMosaic.PureOps.Ideal.Laws

@[expose] public section

noncomputable section

namespace Cert.Value

open Idealize.ShloMosaic

/-- The weight of a score at a maximum. -/
def wt (c m : EReal) : EReal := Ideal.exp (c - m)

theorem wt_nonneg (c m : EReal) : 0 ≤ wt c m := by
  unfold wt
  induction c - m with
  | bot => exact le_of_eq rfl
  | coe r => rw [Ideal.exp_coe]; exact_mod_cast (Real.exp_pos r).le
  | top => exact le_top

/-- A score at most the maximum has a weight that is not infinite. -/
theorem wt_ne_top {c m : EReal} (h : c ≤ m) (hm : m ≠ ⊤) : wt c m ≠ ⊤ := by
  unfold wt
  induction c with
  | bot => rw [EReal.bot_sub]; exact EReal.zero_ne_top
  | top => exact absurd (top_le_iff.mp h) hm
  | coe r =>
    induction m with
    | bot => exact absurd (le_bot_iff.mp h) (EReal.coe_ne_bot r)
    | top => exact absurd rfl hm
    | coe q => rw [← EReal.coe_sub, Ideal.exp_coe]; exact EReal.coe_ne_top _

/-- A weight at the old maximum, times the weight of the old maximum at the new one, is the weight at the new one. -/
theorem wt_mul {c m m' : EReal} (h : c ≤ m) (h' : m ≤ m') (hm : m' ≠ ⊤) : wt c m * wt m m' = wt c m' := by
  unfold wt
  induction c with
  | bot => rw [EReal.bot_sub, EReal.bot_sub, Ideal.exp_bot, zero_mul]
  | top => exact absurd (top_le_iff.mp (h.trans h')) hm
  | coe r =>
    induction m with
    | bot => exact absurd (le_bot_iff.mp h) (EReal.coe_ne_bot r)
    | top => exact absurd (top_le_iff.mp h') hm
    | coe q =>
      induction m' with
      | bot => exact absurd (le_bot_iff.mp h') (EReal.coe_ne_bot q)
      | top => exact absurd rfl hm
      | coe s =>
        rw [← EReal.coe_sub, ← EReal.coe_sub, ← EReal.coe_sub, Ideal.exp_coe, Ideal.exp_coe, Ideal.exp_coe, ← EReal.coe_mul,
          ← Real.exp_add]
        congr 2
        ring

/-- The weight of the maximum itself, when it is a real number. -/
theorem wt_self {m : EReal} (hb : m ≠ ⊥) (ht : m ≠ ⊤) : wt m m = 1 := by
  unfold wt
  induction m with
  | bot => exact absurd rfl hb
  | top => exact absurd rfl ht
  | coe q => rw [← EReal.coe_sub, sub_self, Ideal.exp_coe, Real.exp_zero]; rfl

/-- A product with a number that is neither negative nor infinite distributes over a sum. -/
theorem sum_mul_real {ι : Type} (s : Finset ι) (f : ι → EReal) {a : EReal} (h0 : 0 ≤ a) (ht : a ≠ ⊤) :
    (∑ i ∈ s, f i) * a = ∑ i ∈ s, f i * a := by
  classical
  induction s using Finset.induction_on with
  | empty => rw [Finset.sum_empty, Finset.sum_empty, zero_mul]
  | insert i s hi ih =>
    rw [Finset.sum_insert hi, Finset.sum_insert hi, mul_comm, EReal.left_distrib_of_nonneg_of_ne_top h0 ht, mul_comm a, mul_comm a, ih]

/-- A sum of weights is not infinite when none is. -/
theorem sum_ne_top {ι : Type} (s : Finset ι) (f : ι → EReal) (h : ∀ i ∈ s, f i ≠ ⊤) : ∑ i ∈ s, f i ≠ ⊤ := by
  classical
  induction s using Finset.induction_on with
  | empty => rw [Finset.sum_empty]; exact EReal.zero_ne_top
  | insert i s hi ih =>
    rw [Finset.sum_insert hi]
    exact EReal.add_ne_top (h i (Finset.mem_insert_self i s)) (ih fun j hj => h j (Finset.mem_insert_of_mem hj))

/-- Dividing by a positive number is multiplying by its inverse, which is neither negative nor infinite. -/
theorem div_pos {s : EReal} (h : 0 < s) (x : EReal) : Ideal.div x s = x * s⁻¹ := if_neg h.ne'

theorem inv_nonneg {s : EReal} (h : 0 < s) : 0 ≤ s⁻¹ := EReal.inv_nonneg_of_nonneg h.le

theorem inv_ne_top {s : EReal} (h : 0 < s) : s⁻¹ ≠ ⊤ := by
  induction s with
  | bot => exact absurd h (by simp)
  | top => rw [EReal.inv_top]; exact EReal.zero_ne_top
  | coe r => rw [← EReal.coe_inv]; exact EReal.coe_ne_top _

end Cert.Value

end
-- ==== Proof.Value.Points.lean ====
/-
  The run of the grid points, as sums. Rows numbered from 0, with scores `c`, contents `v` and segments `w`: after `t`
  points the running maximum is the largest score of the first 10000·t rows, the running sum the sum of their weights at
  that maximum, and row `g` of the accumulator the sum of the weighted rows of segment `g`.
-/
module

public import proofs.«01_k».proof.Proof.Value.Half
public import proofs.«01_k».proof.Proof.Value.Weights

@[expose] public section

set_option maxRecDepth 16384

noncomputable section

namespace Cert.Value

open Cert.KernelIdeal Cert.KernelIdeal.Gen Cert.Pool
open Idealize.ShloMosaic

/-! ### Rows by points -/

/-- The rows below 10000·(t+1): those below 10000·t, then the five halves of point `t`. -/
theorem sum_point (f : ℕ → EReal) (t : ℕ) : ∑ n ∈ Finset.range (10000 * (t + 1)), f n
    = ∑ n ∈ Finset.range (10000 * t), f n + ∑ j : Fin 5, ∑ i : Fin 2000, f (10000 * t + 2000 * j.val + i.val) := by
  have e : 10000 * (t + 1) = 10000 * t + 2000 + 2000 + 2000 + 2000 + 2000 := by omega
  have hr : ∀ b : ℕ, ∑ i : Fin 2000, f (b + i.val) = ∑ i ∈ Finset.range 2000, f (b + i) := fun b =>
    (Finset.sum_range fun i => f (b + i)).symm
  simp only [hr]
  rw [e, Finset.sum_range_add, Finset.sum_range_add, Finset.sum_range_add, Finset.sum_range_add, Finset.sum_range_add,
    Fin.sum_univ_five]
  simp only [add_assoc]
  rfl

theorem sup_point (f : ℕ → EReal) (t : ℕ) : (Finset.range (10000 * (t + 1))).sup f
    = max ((Finset.range (10000 * t)).sup f)
      (Finset.univ.sup fun j : Fin 5 => Finset.univ.sup fun i : Fin 2000 => f (10000 * t + 2000 * j.val + i.val)) := by
  apply le_antisymm
  · refine Finset.sup_le fun n hn => ?_
    have h1 := Finset.mem_range.mp hn
    by_cases h : n < 10000 * t
    · exact le_max_of_le_left (Finset.le_sup (f := f) (Finset.mem_range.mpr h))
    · refine le_max_of_le_right ?_
      refine le_trans ?_ (Finset.le_sup (Finset.mem_univ (⟨(n - 10000 * t) / 2000, by omega⟩ : Fin 5)))
      refine le_trans ?_ (Finset.le_sup (Finset.mem_univ (⟨(n - 10000 * t) % 2000, by omega⟩ : Fin 2000)))
      refine le_of_eq (congrArg f ?_)
      show n = 10000 * t + 2000 * ((n - 10000 * t) / 2000) + (n - 10000 * t) % 2000
      omega
  · refine max_le (Finset.sup_mono (Finset.range_mono (by omega))) ?_
    refine Finset.sup_le fun j _ => Finset.sup_le fun i _ => Finset.le_sup (f := f) (Finset.mem_range.mpr ?_)
    have := j.isLt; have := i.isLt
    omega

/-! ### One point -/

section Point

variable (c : ℕ → EReal) (v : ℕ → Fin 256 → EReal) (w : ℕ → ℕ)

/-- The largest score, the sum of the weights, and row `g` of the accumulator, of the first `k` rows. -/
def top (k : ℕ) : EReal := (Finset.range k).sup c
def mass (k : ℕ) : EReal := ∑ n ∈ Finset.range k, wt (c n) (top c k)
def pooled (k : ℕ) (g : ℕ) (d : Fin 256) : EReal := ∑ n ∈ Finset.range k, if w n = g then wt (c n) (top c k) * v n d else 0

theorem le_top' {n k : ℕ} (h : n < k) : c n ≤ top c k := Finset.le_sup (f := c) (Finset.mem_range.mpr h)

theorem top_mono {k k' : ℕ} (h : k ≤ k') : top c k ≤ top c k' := Finset.sup_mono (Finset.range_mono h)

/-- What the numbering asks of point `t`: its rows, its segments, its scores, and the words of its halves. -/
structure At (first last : Fin 5 → BitVec 32) (a : FVec Ideal S256x1 .f32) (X : FVec Ideal S10000x256 .f32)
    (I : IVec S1x1x10000 32) (t : ℕ) : Prop where
  row : ∀ (j : Fin 5) (i : Fin 2000) (d : Fin 256), xs X j (ix2 i d) = v (10000 * t + 2000 * j.val + i.val) d
  score : ∀ (j : Fin 5) (i : Fin 2000), sc a X j (ix2 0 i) = c (10000 * t + 2000 * j.val + i.val)
  seg : ∀ (j : Fin 5) (i : Fin 2000), (ids I j (ix2 0 i)).toNat = w (10000 * t + 2000 * j.val + i.val)
  first_seg : ∀ j, Seg (first j)
  last_seg : ∀ j, Seg (last j)
  between : ∀ (j : Fin 5) (i : Fin 2000), (first j).toNat ≤ w (10000 * t + 2000 * j.val + i.val)
    ∧ w (10000 * t + 2000 * j.val + i.val) ≤ (last j).toNat

variable {c v w}
variable {first last : Fin 5 → BitVec 32} {a : FVec Ideal S256x1 .f32} {X : FVec Ideal S10000x256 .f32}
variable {I : IVec S1x1x10000 32} {t : ℕ}

theorem At.newMax_eq (h : At c v w first last a X I t) : newMax a X (top c (10000 * t)) = top c (10000 * (t + 1)) := by
  rw [Value.newMax_eq, blkMax_eq]
  simp only [h.score]
  exact (sup_point c t).symm

theorem At.alpha_eq (h : At c v w first last a X I t) :
    alpha a X (top c (10000 * t)) = wt (top c (10000 * t)) (top c (10000 * (t + 1))) := by
  rw [Value.alpha_eq, h.newMax_eq]; rfl

theorem At.prob_apply (h : At c v w first last a X I t) (j : Fin 5) (i : Fin 2000) :
    prob a X (top c (10000 * t)) j (ix2 0 i)
      = wt (c (10000 * t + 2000 * j.val + i.val)) (top c (10000 * (t + 1))) := by
  rw [Value.prob_apply, h.newMax_eq, h.score]; rfl

variable (ht : top c (10000 * (t + 1)) ≠ ⊤)
include ht

/-- Weights at the old maximum, rescaled, are weights at the new one. -/
theorem rescale_wt {n : ℕ} (hn : n ∈ Finset.range (10000 * t)) :
    wt (c n) (top c (10000 * t)) * wt (top c (10000 * t)) (top c (10000 * (t + 1))) = wt (c n) (top c (10000 * (t + 1))) :=
  wt_mul (le_top' c (Finset.mem_range.mp hn)) (top_mono c (by omega)) ht

theorem At.newSum_eq (h : At c v w first last a X I t) :
    newSum a X (top c (10000 * t)) (mass c (10000 * t)) = mass c (10000 * (t + 1)) := by
  rw [newSum_apply, h.alpha_eq]
  simp only [h.prob_apply]
  unfold mass
  rw [sum_point, sum_mul_real _ _ (wt_nonneg _ _) (wt_ne_top (top_mono c (by omega)) ht)]
  congr 1
  exact Finset.sum_congr rfl fun n hn => rescale_wt ht hn

theorem At.rescaled_eq (h : At c v w first last a X I t) (o : FVec Ideal S512x256 .f32) (g : Fin 512) (d : Fin 256)
    (ho : o (ix2 g d) = pooled c v w (10000 * t) g.val d) :
    rescaled a X (top c (10000 * t)) o (ix2 g d)
      = ∑ n ∈ Finset.range (10000 * t), if w n = g.val then wt (c n) (top c (10000 * (t + 1))) * v n d else 0 := by
  rw [rescaled_apply, ho, h.alpha_eq]
  have hm := h.newMax_eq
  rw [Value.newMax_eq] at hm
  by_cases hc : top c (10000 * t) < blkMax a X
  · rw [if_pos hc]
    unfold pooled
    rw [sum_mul_real _ _ (wt_nonneg _ _) (wt_ne_top (top_mono c (by omega)) ht)]
    refine Finset.sum_congr rfl fun n hn => ?_
    by_cases hw : w n = g.val
    · rw [if_pos hw, if_pos hw, mul_right_comm, rescale_wt ht hn]
    · rw [if_neg hw, if_neg hw, zero_mul]
  · rw [if_neg hc, ← hm, max_eq_left (not_lt.mp hc)]
    rfl

theorem At.accum_eq (h : At c v w first last a X I t) (o : FVec Ideal S512x256 .f32) (g : Fin 512) (d : Fin 256)
    (ho : o (ix2 g d) = pooled c v w (10000 * t) g.val d) :
    accum first last a X I (top c (10000 * t)) o (ix2 g d) = pooled c v w (10000 * (t + 1)) g.val d := by
  have hs : ∀ (k : ℕ) (hk : k < 5) (o' : FVec Ideal S512x256 .f32),
      halves first last a X I (top c (10000 * t)) o' (k + 1) (ix2 g d)
        = halves first last a X I (top c (10000 * t)) o' k (ix2 g d)
          + ∑ i : Fin 2000, if w (10000 * t + 2000 * k + i.val) = g.val
              then wt (c (10000 * t + 2000 * k + i.val)) (top c (10000 * (t + 1))) * v (10000 * t + 2000 * k + i.val) d else 0 := by
    intro k hk o'
    rw [halves, dif_pos hk, halfOut_apply (h.first_seg _) (h.last_seg _) _ (fun n => by rw [h.seg]; exact h.between _ _)]
    congr 1
    unfold part
    refine Finset.sum_congr rfl fun i _ => ?_
    rw [h.seg, h.prob_apply, show xb X ⟨k, hk⟩ (ix2 i d) = xs X ⟨k, hk⟩ (ix2 i d) from rfl, h.row]
  unfold accum pooled
  rw [hs 4 (by omega), hs 3 (by omega), hs 2 (by omega), hs 1 (by omega), hs 0 (by omega), halves, h.rescaled_eq ht o g d ho,
    sum_point, Fin.sum_univ_five]
  simp only [add_assoc]
  rfl

end Point

/-! ### All points -/

/-- After `t` points: the largest score, the sum of the weights and the weighted sums, of the first 10000·t rows. -/
theorem state_eq {c : ℕ → EReal} {v : ℕ → Fin 256 → EReal} {w : ℕ → ℕ} {T1 T2 : S50.Idx → BitVec 32} {a : FVec Ideal S256x1 .f32}
    {X : ℕ → FVec Ideal S10000x256 .f32} {I : ℕ → IVec S1x1x10000 32}
    (h : ∀ t < 10, At c v w (words T1 t) (words T2 t) a (X t) (I t) t) (ht : top c 100000 ≠ ⊤) (t : ℕ) (h10 : t ≤ 10) :
    (∀ g d, (state T1 T2 a X I t).1 (ix2 g d) = pooled c v w (10000 * t) g.val d)
      ∧ (state T1 T2 a X I t).2.1 = top c (10000 * t) ∧ (state T1 T2 a X I t).2.2 = mass c (10000 * t) := by
  induction t with
  | zero =>
    refine ⟨fun g d => ?_, ?_, ?_⟩
    · show out0 (F := Ideal) (ix2 g d) = _
      unfold out0 pooled
      pointwise [k0_pay8]
      simp
    · show Ideal.ofBits .f32 0xFF800000#32 = _
      rw [ofBits_least]; unfold top; simp
    · show Ideal.ofBits .f32 0x00000000#32 = _
      rw [Ideal.ofBits_zero_f32]; unfold mass; simp
  | succ t ih =>
    obtain ⟨h1, h2, h3⟩ := ih (by omega)
    have hA := h t (by omega)
    have hT : top c (10000 * (t + 1)) ≠ ⊤ := fun hh => ht (top_le_iff.mp (hh ▸ top_mono c (by omega)))
    unfold state
    simp only
    rw [h2, h3]
    exact ⟨fun g d => hA.accum_eq hT _ g d (h1 g d), hA.newMax_eq, hA.newSum_eq hT⟩

/-- What the kernel leaves: the weighted sums over all rows, divided by the sum of all weights. -/
theorem outAfter_eq {c : ℕ → EReal} {v : ℕ → Fin 256 → EReal} {w : ℕ → ℕ} {T1 T2 : S50.Idx → BitVec 32} {a : FVec Ideal S256x1 .f32}
    {X : ℕ → FVec Ideal S10000x256 .f32} {I : ℕ → IVec S1x1x10000 32}
    (h : ∀ t < 10, At c v w (words T1 t) (words T2 t) a (X t) (I t) t) (ht : top c 100000 ≠ ⊤) (g : Fin 512) (d : Fin 256) :
    outAfter T1 T2 a X I 9 (ix2 g d) = Ideal.div (pooled c v w 100000 g.val d) (mass c 100000) := by
  obtain ⟨h1, _, h3⟩ := state_eq h ht 10 le_rfl
  unfold outAfter
  rw [if_pos rfl, finish_apply, h1, h3]

end Cert.Value

end
-- ==== Proof.Value.Maxima.lean ====
/-
  Maxima of whole arrays: the word they start from, and a reduction by the maximum over every axis as a supremum.
-/
module

public import Idealize.ShloMosaic.PureOps.Ideal.Laws
public import Idealize.ShloMosaic.PureOps.Reduce

@[expose] public section

noncomputable section

namespace Cert.Value.Maxima

open Idealize.ShloMosaic

/-- The word a maximum starts from is the least value, the word it is compared with the greatest. -/
theorem ofBits_least : Ideal.ofBits .f32 0xFF800000#32 = ⊥ := by
  simp [Ideal.ofBits, Ideal.ieee]

theorem ofBits_greatest : Ideal.ofBits .f32 0x7F800000#32 = ⊤ := by
  simp [Ideal.ofBits, Ideal.ieee]

theorem constant_least {s : Shape} (i : s.Idx) : constant (F := Ideal) s .f32 0xFF800000#32 i = (⊥ : EReal) := ofBits_least

/-- The maximum of two arrays at an index. -/
theorem maximumf_at {s : Shape} (x y : FVec Ideal s .f32) (i : s.Idx) : maximumf x y i = (max (x i) (y i) : EReal) := rfl

/-- A reduction by the maximum over every axis, from the least value, is the supremum of the array. -/
theorem reduce_all {s t u : Shape} {axes : List (Fin s.rank)} (x : FVec Ideal s .f32) {init : FVec Ideal u .f32}
    (h : s.ReducesTo axes t) (hu : 0 < u.numel) (z : t.Idx) (ht : Fin t.rank → False) (hi : init (Shape.Idx.first hu) = (⊥ : EReal)) :
    Host.reduce FloatOps.maximumf x init h hu z = (Finset.univ.sup (α := EReal) x : EReal) := by
  rw [Host.reduce_eq_fold, hi, Finset.filter_true_of_mem fun i _ => funext fun b => (ht b).elim]
  rfl

end Cert.Value.Maxima

end
-- ==== Proof.Value.Reference.lean ====
/-
  The reference's result read at an index: row `g` is the sum, over the rows of segment `g`, of the row times its
  softmax weight, the quotient of its exponential and the sum of all exponentials.
-/
module

public import proofs.«01_k».proof.Proof.Gen.ReferenceIdeal.Run
public import proofs.«01_k».proof.Proof.Value.Weights
public import proofs.«01_k».proof.Proof.Value.Maxima
public import Idealize.ShloMosaic.Lib.Pointwise
public import Idealize.ShloMosaic.Lib.Routing.OpsPair

@[expose] public section

set_option maxRecDepth 16384

noncomputable section

namespace Cert.Value.Reference

open Cert.ReferenceIdeal Cert.ReferenceIdeal.Gen
open Idealize.ShloMosaic

/-- The scores of the rows. -/
def scores (X : FVec Ideal S100000x256 .f32) (a : FVec Ideal S256x1 .f32) : FVec Ideal S100000 .f32 :=
  shapeCast S100000 (Host.dotGeneral dot_S100000x256_S256x1_S100000x1_1_0_0_1_n_n none X a) shapeCasts_S100000x1_S100000

/-- The largest score. -/
def largest (s : FVec Ideal S100000 .f32) : FVec Ideal S_ .f32 :=
  maximumf (constant S_ .f32 0xFF800000#32)
    (Host.reduce FloatOps.maximumf s (constant S_ .f32 0xFF800000#32) reducesTo_S100000_S_d0 h_S_)

/-- A single number, at every row. -/
def spread (x : FVec Ideal S_ .f32) : FVec Ideal S100000 .f32 :=
  broadcastInDim S100000 ![0] bcast_S1_S100000_0 (broadcastInDim S1 ![] bcast_S_S1 x)

/-- The exponentials of the scores less the largest, and the softmax weights. -/
def exps (s : FVec Ideal S100000 .f32) : FVec Ideal S100000 .f32 := Host.exp (subf s (spread (largest s)))
def total (e : FVec Ideal S100000 .f32) : FVec Ideal S_ .f32 :=
  Host.reduceAdd e (constant S_ .f32 0x00000000#32) reducesTo_S100000_S_d0 h_S_
def weights (e : FVec Ideal S100000 .f32) : FVec Ideal S100000 .f32 := Host.divf e (spread (total e))

/-- The weighted rows. -/
def weighted (q : FVec Ideal S100000 .f32) (X : FVec Ideal S100000x256 .f32) : FVec Ideal S100000x256 .f32 :=
  mulf (broadcastInDim S100000x256 ![0, 1] bcast_S100000x1_S100000x256_0_1
    (broadcastInDim S100000x1 ![0] bcast_S100000_S100000x1_0 q)) X

/-- The rows summed by segments. -/
def summed (I : IVec S100000 32) (u : FVec Ideal S100000x256 .f32) : FVec Ideal S512x256 .f32 :=
  Host.scatterAdd scatter_S512x256_S100000x1_S100000x256_1_0_0_1
    (broadcastInDim S512x256 ![] bcast_S_S512x256 (constant S_ .f32 0x00000000#32))
    (broadcastInDim S100000x1 ![0] bcast_S100000_S100000x1_0 I) u

/-- The reference's result. -/
def result (X : FVec Ideal S100000x256 .f32) (I : IVec S100000 32) (a : FVec Ideal S256x1 .f32) : FVec Ideal S512x256 .f32 :=
  summed I (weighted (weights (exps (scores X a))) X)

theorem scores_apply (X : FVec Ideal S100000x256 .f32) (a : FVec Ideal S256x1 .f32) (n : Fin 100000) :
    scores X a (ix1 n) = ∑ d : Fin 256, X (ix2 n d) * a (ix2 d 0) := by
  unfold scores
  pointwise

theorem largest_apply (s : FVec Ideal S100000 .f32) (z : S_.Idx) :
    largest s z = Finset.univ.sup fun n : Fin 100000 => s (ix1 n) := by
  unfold largest
  rw [Maxima.maximumf_at, Maxima.reduce_all _ _ _ _ (fun b => b.elim0) (Maxima.constant_least _), Maxima.constant_least]
  refine (max_eq_right bot_le).trans (le_antisymm (Finset.sup_le fun i _ => ?_) (Finset.sup_le fun n _ => Finset.le_sup (f := s) (Finset.mem_univ (ix1 n : S100000.Idx))))
  rw [show i = ix1 (i 0) from eq_ix1 i]
  exact Finset.le_sup (f := fun n : Fin 100000 => s (ix1 n)) (Finset.mem_univ (i 0))

theorem spread_apply (x : FVec Ideal S_ .f32) (n : Fin 100000) (z : S_.Idx) : spread x (ix1 n) = x z := by
  unfold spread
  pointwise
  exact congrArg x (funext fun b => b.elim0)

theorem total_apply (e : FVec Ideal S100000 .f32) (z : S_.Idx) : total e z = ∑ n : Fin 100000, e (ix1 n) := by
  unfold total
  pointwise

theorem weighted_apply (q : FVec Ideal S100000 .f32) (X : FVec Ideal S100000x256 .f32) (n : Fin 100000) (d : Fin 256) :
    weighted q X (ix2 n d) = q (ix1 n) * X (ix2 n d) := by
  unfold weighted
  pointwise

/-- The update of row `n`, column `d'`, lands at row `g`, column `d`, when the row's word is `g` and the columns agree. -/
theorem lands (n : Fin 100000) (d' : Fin 256) (idx : IVec S100000x1 32) (g : Fin 512) (d : Fin 256) :
    scatter_S512x256_S100000x1_S100000x256_1_0_0_1.resultIdx? (ix2 n d') idx = some (ix2 g d)
      ↔ (idx (ix2 n 0)).toInt = g.val ∧ d' = d := by
  have s0 : scatter_S512x256_S100000x1_S100000x256_1_0_0_1.start (ix2 n d') idx (0 : Fin 2) = (idx (ix2 n 0)).toInt := by
    unfold ScatterDims.start
    rw [dif_pos (show (0 : Fin 2) ∈ scatter_S512x256_S100000x1_S100000x256_1_0_0_1.scatterDimsToOperandDims from List.mem_singleton.mpr rfl)]
    refine congrArg (fun k => (idx k).toInt) (funext fun b => ?_)
    match b with
    | ⟨0, _⟩ => rfl
    | ⟨1, _⟩ => rfl
  have s1 : scatter_S512x256_S100000x1_S100000x256_1_0_0_1.start (ix2 n d') idx (1 : Fin 2) = 0 := rfl
  have w0 : scatter_S512x256_S100000x1_S100000x256_1_0_0_1.window (ix2 n d') (0 : Fin 2) = 0 := rfl
  have w1 : scatter_S512x256_S100000x1_S100000x256_1_0_0_1.window (ix2 n d') (1 : Fin 2) = d'.val := rfl
  rw [Routing.resultIdx?_eq_some]
  constructor
  · intro h
    have h0 := h 0
    have h1 := h 1
    have e0 : ((ix2 g d : S512x256.Idx) 0).val = g.val := rfl
    have e1 : ((ix2 g d : S512x256.Idx) 1).val = d.val := rfl
    rw [e0] at h0; rw [e1] at h1
    rw [show scatter_S512x256_S100000x1_S100000x256_1_0_0_1.start (ix2 n d') idx 0 = _ from s0,
      show scatter_S512x256_S100000x1_S100000x256_1_0_0_1.window (ix2 n d') 0 = _ from w0] at h0
    rw [show scatter_S512x256_S100000x1_S100000x256_1_0_0_1.start (ix2 n d') idx 1 = _ from s1,
      show scatter_S512x256_S100000x1_S100000x256_1_0_0_1.window (ix2 n d') 1 = _ from w1] at h1
    exact ⟨by omega, Fin.ext (by omega)⟩
  · rintro ⟨h0, rfl⟩ a
    match a with
    | ⟨0, _⟩ =>
      show scatter_S512x256_S100000x1_S100000x256_1_0_0_1.start (ix2 n d') idx (0 : Fin 2)
        + ((scatter_S512x256_S100000x1_S100000x256_1_0_0_1.window (ix2 n d') (0 : Fin 2) : ℕ) : ℤ) = (g.val : ℤ)
      rw [s0, w0, h0]; simp
    | ⟨1, _⟩ =>
      show scatter_S512x256_S100000x1_S100000x256_1_0_0_1.start (ix2 n d') idx (1 : Fin 2)
        + ((scatter_S512x256_S100000x1_S100000x256_1_0_0_1.window (ix2 n d') (1 : Fin 2) : ℕ) : ℤ) = (d'.val : ℤ)
      rw [s1, w1]; simp

theorem summed_apply (I : IVec S100000 32) (hI : ∀ n, (I (ix1 n)).toNat < 512) (u : FVec Ideal S100000x256 .f32) (g : Fin 512)
    (d : Fin 256) :
    summed I u (ix2 g d) = ∑ n : Fin 100000, if (I (ix1 n)).toNat = g.val then u (ix2 n d) else 0 := by
  have hi : ∀ n : Fin 100000, (broadcastInDim S100000x1 ![0] bcast_S100000_S100000x1_0 I (ix2 n 0)) = I (ix1 n) := by
    intro n
    pointwise
  have hz : (broadcastInDim S512x256 ![] bcast_S_S512x256 (constant (F := Ideal) S_ .f32 0x00000000#32)) (ix2 g d) = (0 : EReal) := by
    pointwise
  unfold summed
  generalize hidx : broadcastInDim S100000x1 ![0] bcast_S100000_S100000x1_0 I = idx at hi
  show (broadcastInDim S512x256 ![] bcast_S_S512x256 (constant (F := Ideal) S_ .f32 0x00000000#32)) (ix2 g d)
    + ∑ j ∈ Finset.univ.filter (fun j => scatter_S512x256_S100000x1_S100000x256_1_0_0_1.resultIdx? j idx = some (ix2 g d)), u j = _
  rw [hz, zero_add, Finset.sum_filter, sum_idx2]
  refine Finset.sum_congr rfl fun n _ => ?_
  have hn := hI n
  have hc : (idx (ix2 n 0)).toInt = (g.val : ℤ) ↔ (I (ix1 n)).toNat = g.val := by
    rw [hi, WordCmp.toInt_eq_toNat_of_lt_half (by omega)]; omega
  simp only [lands, hc]
  by_cases h : (I (ix1 n)).toNat = g.val
  · simp [h]
  · simp [h]

end Cert.Value.Reference

end
-- ==== Proof.Value.Pre.lean ====
/-
  What the value claim's precondition says: every segment is below 512, the segments do not decrease, and the largest
  score is a real number.
-/
module

public import proofs.«01_k».proof.Pre_sorted_ids_finite_max
public import proofs.«01_k».proof.Proof.Pool.Pre
public import proofs.«01_k».proof.Proof.Value.Reference

@[expose] public section

set_option maxRecDepth 16384

noncomputable section

namespace Cert.Value.Pre

open Cert.Pool Cert.Pre_sorted_ids_finite_max
open Idealize.ShloMosaic

instance facts_sorted : Cert.Pre_sorted_ids_finite_max.Facts :=
  ⟨by decide, by decide, by decide, by decide, by decide, by decide⟩

variable {X : FVec Ideal S100000x256 .f32} {I : IVec S100000 32} {a : FVec Ideal S256x1 .f32}

theorem seg_of (h : (fn X I a).1 = fun _ => 1#1) (i) : Seg (I i) := seg_of_cmp (congrFun h i)

/-! ### The order of the segments -/

theorem neighbours (n : Fin 99999) : (fn X I a).2.1 (ix1 n)
    = IntOp.cmpi .sle (I (ix1 ⟨n.val, by omega⟩)) (I (ix1 ⟨n.val + 1, by omega⟩)) := by
  have e : (fn X I a).2.1 = cmpi .sle (extractStridedSlice S99999 ![0] I Facts.slices_S100000_S99999_0)
      (extractStridedSlice S99999 ![1] I Facts.slices_S100000_S99999_1) := rfl
  rw [e]
  pointwise
  exact congrArg (fun k => IntOp.cmpi .sle (I (ix1 ⟨n.val, by omega⟩)) (I (ix1 k))) (Fin.ext (by simp only; omega))

theorem le_of_sle {x y : BitVec 32} (hx : Seg x) (hy : Seg y) (h : IntOp.cmpi .sle x y = 1#1) : x.toNat ≤ y.toNat := by
  have g : BitVec.ofBool (x.sle y) = 1#1 := h
  simp only [BitVec.sle, StableHlo.Predicate.ofBool_eq_one_iff, decide_eq_true_eq] at g
  unfold Seg at hx hy
  rw [WordCmp.toInt_eq_toNat_of_lt_half (by omega), WordCmp.toInt_eq_toNat_of_lt_half (by omega)] at g
  omega

theorem sorted (h0 : (fn X I a).1 = fun _ => 1#1) (h : (fn X I a).2.1 = fun _ => 1#1) {n k : ℕ} (hnk : n ≤ k) (hk : k < 100000) :
    (I (ix1 ⟨n, by omega⟩)).toNat ≤ (I (ix1 ⟨k, hk⟩)).toNat := by
  induction k, hnk using Nat.le_induction with
  | base => exact le_rfl
  | succ k hle ih =>
    refine (ih (by omega)).trans (le_of_sle (seg_of h0 _) (seg_of h0 _) ?_)
    exact (neighbours (X := X) (a := a) ⟨k, by omega⟩).symm.trans (congrFun h _)

/-! ### The largest score -/

theorem real_of_abs_lt {s : Shape} (y b : FVec Ideal s .f32) (z : s.Idx) (hb : b z = (⊤ : EReal))
    (h : cmpf .olt (Host.absf y) b z = 1#1) : y z ≠ (⊥ : EReal) ∧ y z ≠ (⊤ : EReal) := by
  have g : BitVec.ofBool (decide ((max (y z) (-(y z)) : EReal) < b z)) = 1#1 := h
  rw [StableHlo.Predicate.ofBool_eq_one_iff, decide_eq_true_eq, hb] at g
  constructor
  · intro e
    rw [e, EReal.neg_bot] at g
    exact absurd g (by simp)
  · intro e
    rw [e] at g
    exact absurd g (by simp)

theorem largest_real (h : (fn X I a).2.2 = fun _ => 1#1) :
    (Finset.univ.sup fun n : Fin 100000 => (Reference.scores X a (ix1 n) : EReal)) ≠ ⊥
      ∧ (Finset.univ.sup fun n : Fin 100000 => (Reference.scores X a (ix1 n) : EReal)) ≠ ⊤ := by
  have e : (fn X I a).2.2 = cmpf .olt (Host.absf (Host.reduce FloatOps.maximumf
      (Host.dotGeneral dot_S100000x256_S256x1_S100000x1_1_0_0_1_n_n none X a) (constant S_ .f32 0xFF800000#32)
      Facts.reducesTo_S100000x1_S_d0_1 Facts.h_S_)) (constant S_ .f32 0x7F800000#32) := rfl
  have z : S_.Idx := fun b => b.elim0
  have g := real_of_abs_lt _ _ z Maxima.ofBits_greatest ((congrFun e z).symm.trans (congrFun h z))
  rw [Maxima.reduce_all _ _ _ _ (fun b => b.elim0) (Maxima.constant_least _)] at g
  have hd : ∀ n : Fin 100000, Host.dotGeneral dot_S100000x256_S256x1_S100000x1_1_0_0_1_n_n none X a (ix2 n 0)
      = Reference.scores X a (ix1 n) := by
    intro n
    rw [Reference.scores_apply]
    pointwise
  have hs : (Finset.univ.sup (α := EReal) (Host.dotGeneral dot_S100000x256_S256x1_S100000x1_1_0_0_1_n_n none X a))
      = Finset.univ.sup fun n : Fin 100000 => (Reference.scores X a (ix1 n) : EReal) := by
    generalize Host.dotGeneral dot_S100000x256_S256x1_S100000x1_1_0_0_1_n_n none X a = y at hd
    apply le_antisymm
    · refine Finset.sup_le fun i _ => ?_
      obtain ⟨n, rfl⟩ : ∃ n : Fin 100000, i = (ix2 n (0 : Fin 1) : S100000x1.Idx) := by
        refine ⟨i 0, funext fun b => ?_⟩
        match b with
        | ⟨0, _⟩ => rfl
        | ⟨1, _⟩ => exact Subsingleton.elim (α := Fin 1) _ _
      rw [hd]
      exact Finset.le_sup (f := fun n : Fin 100000 => (Reference.scores X a (ix1 n) : EReal)) (Finset.mem_univ n)
    · refine Finset.sup_le fun n _ => ?_
      rw [← hd n]
      exact Finset.le_sup (f := (y : S100000x1.Idx → EReal)) (Finset.mem_univ (ix2 n 0))
  rw [hs] at g
  exact g

end Cert.Value.Pre

end
-- ==== Proof.Value.Equal.lean ====
/-
  The value: the array the kernel leaves is the reference's result. Both are, at row `g`, the sum over the rows of
  segment `g` of the row times its weight, the kernel dividing the sum once by the mass, the reference each weight.
-/
module

public import proofs.«01_k».proof.Proof.Value.Blocks
public import proofs.«01_k».proof.Proof.Value.Points
public import proofs.«01_k».proof.Proof.Value.Pre

@[expose] public section

set_option maxRecDepth 16384

noncomputable section

namespace Cert.Value

open Cert.KernelIdeal Cert.KernelIdeal.Gen Cert.KernelIdeal.Run Cert.Pool
open Idealize.ShloMosaic
open Idealize.ShloMosaic.TcCoe

/-! ### The rows, numbered from 0 -/

def rowOf (n : ℕ) : Fin 100000 := ⟨n % 100000, Nat.mod_lt n (by decide)⟩

theorem rowOf_val {n : ℕ} (h : n < 100000) : (rowOf n).val = n := Nat.mod_eq_of_lt h

theorem rowOf_fin (n : Fin 100000) : rowOf n.val = n := Fin.ext (rowOf_val n.isLt)

variable (X : FVec Ideal S100000x256 .f32) (I : IVec S100000 32) (a : FVec Ideal S256x1 .f32)

def score (n : ℕ) : EReal := Reference.scores X a (ix1 (rowOf n))
def content (n : ℕ) (d : Fin 256) : EReal := X (ix2 (rowOf n) d)
def segment (n : ℕ) : ℕ := (I (ix1 (rowOf n))).toNat

theorem top_eq : top (score X a) 100000 = Finset.univ.sup fun n : Fin 100000 => (Reference.scores X a (ix1 n) : EReal) := by
  apply le_antisymm
  · exact Finset.sup_le fun n _ => Finset.le_sup (f := fun n : Fin 100000 => (Reference.scores X a (ix1 n) : EReal)) (Finset.mem_univ (rowOf n))
  · refine Finset.sup_le fun n _ => ?_
    have h := le_top' (score X a) n.isLt
    unfold score at h
    rw [rowOf_fin] at h
    exact h

theorem mass_eq : mass (score X a) 100000
    = ∑ n : Fin 100000, wt (Reference.scores X a (ix1 n)) (top (score X a) 100000) := by
  unfold mass
  rw [Finset.sum_range]
  exact Finset.sum_congr rfl fun n _ => by unfold score; rw [rowOf_fin]

theorem pooled_eq (g : ℕ) (d : Fin 256) : pooled (score X a) (content X) (segment I) 100000 g d
    = ∑ n : Fin 100000, if (I (ix1 n)).toNat = g
        then wt (Reference.scores X a (ix1 n)) (top (score X a) 100000) * X (ix2 n d) else 0 := by
  unfold pooled
  rw [Finset.sum_range]
  exact Finset.sum_congr rfl fun n _ => by unfold segment content score; rw [rowOf_fin]

variable {X I a}

/-- The mass is positive, the row of the largest score weighing 1. -/
theorem mass_pos (hb : top (score X a) 100000 ≠ ⊥) (ht : top (score X a) 100000 ≠ ⊤) : 0 < mass (score X a) 100000 := by
  obtain ⟨n, hn, e⟩ := Finset.exists_mem_eq_sup (Finset.range 100000) ⟨0, Finset.mem_range.mpr (by norm_num)⟩ (score X a)
  have e' : top (score X a) 100000 = score X a n := e
  have h1 : wt (score X a n) (top (score X a) 100000) = 1 := by rw [← e']; exact wt_self hb ht
  have h2 : wt (score X a n) (top (score X a) 100000) ≤ mass (score X a) 100000 :=
    Finset.single_le_sum (f := fun n => wt (score X a n) (top (score X a) 100000)) (fun i _ => wt_nonneg _ _) hn
  exact lt_of_lt_of_le (h1 ▸ zero_lt_one) h2

/-! ### The reference's result -/

theorem exp_sub_at {s : Shape} (x y : FVec Ideal s .f32) (i : s.Idx) : Host.exp (subf x y) i = wt (x i) (y i) := rfl

theorem divf_at {s : Shape} (x y : FVec Ideal s .f32) (i : s.Idx) : Host.divf x y i = Ideal.div (x i) (y i) := rfl

theorem exps_apply (n : Fin 100000) : Reference.exps (Reference.scores X a) (ix1 n)
    = wt (Reference.scores X a (ix1 n)) (top (score X a) 100000) := by
  have z : Cert.ReferenceIdeal.S_.Idx := fun b => b.elim0
  unfold Reference.exps
  rw [exp_sub_at, Reference.spread_apply _ n z, Reference.largest_apply, top_eq]

theorem weights_apply (n : Fin 100000) : Reference.weights (Reference.exps (Reference.scores X a)) (ix1 n)
    = Ideal.div (wt (Reference.scores X a (ix1 n)) (top (score X a) 100000)) (mass (score X a) 100000) := by
  have z : Cert.ReferenceIdeal.S_.Idx := fun b => b.elim0
  unfold Reference.weights
  rw [divf_at, Reference.spread_apply _ n z, Reference.total_apply, mass_eq, exps_apply]
  exact congrArg (Ideal.div _) (Finset.sum_congr rfl fun n _ => exps_apply n)

theorem result_apply (hI : ∀ i, Seg (I i)) (hb : top (score X a) 100000 ≠ ⊥) (ht : top (score X a) 100000 ≠ ⊤)
    (g : Fin 512) (d : Fin 256) : Reference.result X I a (ix2 g d)
      = Ideal.div (pooled (score X a) (content X) (segment I) 100000 g.val d) (mass (score X a) 100000) := by
  have hm := mass_pos hb ht
  unfold Reference.result
  rw [Reference.summed_apply I (fun n => hI (ix1 n)), pooled_eq, div_pos hm, sum_mul_real _ _ (inv_nonneg hm) (inv_ne_top hm)]
  refine Finset.sum_congr rfl fun n _ => ?_
  by_cases h : (I (ix1 n)).toNat = g.val
  · rw [if_pos h, if_pos h, Reference.weighted_apply, weights_apply, div_pos hm, mul_right_comm]
  · rw [if_neg h, if_neg h, zero_mul]

/-! ### The kernel's -/

section Kernel

variable (m : (ℓ : Loc nD τ sig) → Buf (Elt Ideal) ℓ) (c : Dev nD)

/-- The arguments' arrays. -/
def argX : FVec Ideal S100000x256 .f32 := m ((c : Thread nD τ).loc main_arg0)
def argI : IVec S100000 32 := m ((c : Thread nD τ).loc main_arg1)
def argA : FVec Ideal S256x1 .f32 := m ((c : Thread nD τ).loc main_arg2)

theorem point_val {t : ℕ} (ht : t < 10) : (pt t).val = t := Nat.mod_eq_of_lt ht

theorem row_at {t : ℕ} (ht : t < 10) (j : Fin 5) (i : Fin 2000) (d : Fin 256) :
    xs (Xb m c (pt t)) j (ix2 i d) = argX m c (ix2 (rowOf (10000 * t + 2000 * j.val + i.val)) d) := by
  have hj := j.isLt
  have hi := i.isLt
  rw [xs_apply _ j i d ⟨2000 * j.val + i.val, by omega⟩ rfl]
  exact Xb_apply m c (pt t) _ d _ (by rw [point_val ht, rowOf_val (by omega)]; simp only; omega)

theorem seg_at {t : ℕ} (ht : t < 10) (j : Fin 5) (i : Fin 2000) :
    ids (Ib m c (pt t)) j (ix2 0 i) = argI m c (ix1 (rowOf (10000 * t + 2000 * j.val + i.val))) := by
  have hj := j.isLt
  have hi := i.isLt
  rw [ids_apply _ j i ⟨2000 * j.val + i.val, by omega⟩ rfl]
  exact Ib_apply m c (pt t) _ _ (by rw [point_val ht, rowOf_val (by omega)]; simp only; omega)

theorem first_at {t : ℕ} (ht : t < 10) (j : Fin 5) : words (T1 m c) t j = argI m c (ix1 (rowOf (10000 * t + 2000 * j.val))) := by
  have hj := j.isLt
  exact word_T1 m c (5 * t + j.val) (by omega) _ (by rw [rowOf_val (by omega)]; omega)

theorem last_at {t : ℕ} (ht : t < 10) (j : Fin 5) :
    words (T2 m c) t j = argI m c (ix1 (rowOf (10000 * t + 2000 * j.val + 1999))) := by
  have hj := j.isLt
  exact word_T2 m c (5 * t + j.val) (by omega) _ (by rw [rowOf_val (by omega)]; omega)

variable {m c}

/-- Every point reads its rows of the arguments. -/
theorem at_point (hI : ∀ i, Seg (argI m c i))
    (hs : ∀ {n k : ℕ}, n ≤ k → (hk : k < 100000) → segment (argI m c) n ≤ segment (argI m c) k) {t : ℕ} (ht : t < 10) :
    At (score (argX m c) (argA m c)) (content (argX m c)) (segment (argI m c)) (words (T1 m c) t) (words (T2 m c) t)
      (ab m c (pt 0)) (Xb m c (pt t)) (Ib m c (pt t)) t where
  row j i d := row_at m c ht j i d
  score j i := by
    unfold Value.score
    rw [sc_apply, Reference.scores_apply]
    refine Finset.sum_congr rfl fun d _ => ?_
    rw [row_at m c ht j i d, ab_apply, mul_comm]
    rfl
  seg j i := by rw [seg_at m c ht j i]; rfl
  first_seg j := by rw [first_at m c ht j]; exact hI _
  last_seg j := by rw [last_at m c ht j]; exact hI _
  between j i := by
    have hj := j.isLt
    have hi := i.isLt
    rw [first_at m c ht j, last_at m c ht j]
    exact ⟨hs (by omega) (by omega), hs (by omega) (by omega)⟩

/-- The array the kernel leaves is the reference's result. -/
theorem outAt_eq
    (h1 : (Cert.Pre_sorted_ids_finite_max.fn (argX m c) (argI m c) (argA m c)).1 = fun _ => 1#1)
    (h2 : (Cert.Pre_sorted_ids_finite_max.fn (argX m c) (argI m c) (argA m c)).2.1 = fun _ => 1#1)
    (h3 : (Cert.Pre_sorted_ids_finite_max.fn (argX m c) (argI m c) (argA m c)).2.2 = fun _ => 1#1) :
    outAt m c 9 = Reference.result (argX m c) (argI m c) (argA m c) := by
  have hI : ∀ i, Seg (argI m c i) := Pre.seg_of h1
  have hr := Pre.largest_real h3
  rw [← top_eq] at hr
  have hs : ∀ {n k : ℕ}, n ≤ k → (hk : k < 100000) → segment (argI m c) n ≤ segment (argI m c) k := by
    intro n k hnk hk
    have e := Pre.sorted h1 h2 hnk hk
    unfold segment
    rw [show rowOf n = ⟨n, by omega⟩ from Fin.ext (rowOf_val (by omega)), show rowOf k = ⟨k, hk⟩ from Fin.ext (rowOf_val hk)]
    exact e
  refine funext fun i => ?_
  obtain ⟨g, d, rfl⟩ : ∃ (g : Fin 512) (d : Fin 256), i = (ix2 g d : S512x256.Idx) := by
    refine ⟨i 0, i 1, funext fun b => ?_⟩
    match b with
    | ⟨0, _⟩ => rfl
    | ⟨1, _⟩ => rfl
  rw [result_apply hI hr.1 hr.2]
  exact outAfter_eq (fun t ht => at_point hI hs ht) hr.2 g d

end Kernel

end Cert.Value

end
-- ==== Proof.lean ====
/-
  The claim: the kernel and its ideal reading run to their ends with the arguments unchanged and every semaphore at zero, and so
  does the reference; the ideal reading is the kernel's own text, and its result is the reference's.
-/
module

public import proofs.«01_k».proof.Defs
public import proofs.«01_k».proof.Proof.Kernel.Run
public import proofs.«01_k».proof.Proof.KernelIdeal.Run
public import proofs.«01_k».proof.Proof.Gen.ReferenceIdeal.Run
public import proofs.«01_k».proof.Proof.Pool.Pre
public import proofs.«01_k».proof.Proof.Value.Equal

@[expose] public section

noncomputable section

namespace Cert.Proof

open Idealize.ShloMosaic Idealize.SL.Sem Cert.Pool

/-- The kernel runs, its arguments unchanged, every semaphore at zero. -/
theorem kernel_runs : Cert.quiescent_Kernel := by
  intro m g hpre
  refine (θ_run _ _ _).mono ?_ (Cert.Kernel.Run.run_end m g fun c x => seg_of_ids (hpre c) x)
  exact fun r h => ⟨fun c => ⟨(h.1 c).1, (h.1 c).2.1, (h.1 c).2.2.1⟩, h.2⟩

/-- Its ideal reading runs likewise. -/
theorem kernelIdeal_runs : Cert.quiescent_KernelIdeal := by
  intro m g hpre
  refine (θ_run _ _ _).mono ?_ (Cert.KernelIdeal.Run.run_end m g fun c x => seg_of_ids (hpre c) x)
  exact fun r h => ⟨fun c => ⟨(h.1 c).1, (h.1 c).2.1, (h.1 c).2.2.1⟩, h.2⟩

/-- The reference runs likewise. -/
theorem reference_runs : Cert.quiescent_ReferenceIdeal := by
  intro m g _
  refine (θ_run _ _ _).mono ?_ (Cert.ReferenceIdeal.Value.run m g)
  exact fun r h => ⟨fun c => (h c).2, sem_eq_zero_of_no_sems (by decide) r.2⟩

/-- Both run as well under the value claim's precondition. -/
theorem kernelIdeal_runs_sorted : Cert.quiescent_KernelIdeal_pre_sorted_ids_finite_max := by
  intro m g hpre
  refine (θ_run _ _ _).mono ?_ (Cert.KernelIdeal.Run.run_end m g fun c x => Cert.Value.Pre.seg_of (hpre c).1 x)
  exact fun r h => ⟨fun c => ⟨(h.1 c).1, (h.1 c).2.1, (h.1 c).2.2.1⟩, h.2⟩

theorem reference_runs_sorted : Cert.quiescent_ReferenceIdeal_pre_sorted_ids_finite_max := by
  intro m g _
  refine (θ_run _ _ _).mono ?_ (Cert.ReferenceIdeal.Value.run m g)
  exact fun r h => ⟨fun c => (h c).2, sem_eq_zero_of_no_sems (by decide) r.2⟩

/-- The kernel's result is the reference's. -/
theorem same_result : Cert.algebraic_KernelIdeal_ReferenceIdeal_pre_sorted_ids_finite_max := by
  intro m g m' g' hpre hargs
  refine ⟨fun c => Cert.KernelIdeal.Run.outAt m c 9, ?_, ?_⟩
  · refine (θ_run _ _ _).mono ?_ (Cert.KernelIdeal.Run.run_end m g fun c x => Cert.Value.Pre.seg_of (hpre c).1 x)
    exact fun r h c => ⟨(h.1 c).2.2.2, (h.1 c).1, (h.1 c).2.1, (h.1 c).2.2.1⟩
  · refine (θ_run _ _ _).mono ?_ (Cert.ReferenceIdeal.Value.run m' g')
    refine fun r h c => ⟨((h c).1.trans ?_).trans (Cert.Value.outAt_eq (m := m) (c := c) (hpre c).1 (hpre c).2.1 (hpre c).2.2).symm, (h c).2⟩
    rw [(hargs c).1, (hargs c).2.1, (hargs c).2.2]
    rfl

theorem claim : Cert.Claim :=
  ⟨Cert.Kernel.Gen.facts, Cert.KernelIdeal.Gen.facts, Cert.ReferenceIdeal.Gen.facts, facts_ids, Cert.Value.Pre.facts_sorted,
    kernel_runs, kernelIdeal_runs, kernelIdeal_runs_sorted, reference_runs, reference_runs_sorted, trivial, same_result⟩

end Cert.Proof

end
